-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S32x128x1000 : Shape := ⟨3, ![32, 128, 1000]⟩
abbrev S32x128x10x10x1x4 : Shape := ⟨6, ![32, 128, 10, 10, 1, 4]⟩
abbrev S2048x1000 : Shape := ⟨2, ![2048, 1000]⟩
abbrev S1000 : Shape := ⟨1, ![1000]⟩
abbrev S2048x1 : Shape := ⟨2, ![2048, 1]⟩
abbrev S1 : Shape := ⟨1, ![1]⟩
abbrev S1x1000 : Shape := ⟨2, ![1, 1000]⟩
abbrev S1x2048 : Shape := ⟨2, ![1, 2048]⟩
abbrev S1x1 : Shape := ⟨2, ![1, 1]⟩
abbrev S4096x1 : Shape := ⟨2, ![4096, 1]⟩
abbrev S32x128 : Shape := ⟨2, ![32, 128]⟩
abbrev S_ : Shape := ⟨0, ![]⟩
abbrev S32 : Shape := ⟨1, ![32]⟩
abbrev S512x1024 : Shape := ⟨2, ![512, 1024]⟩
abbrev S4x128x1000 : Shape := ⟨3, ![4, 128, 1000]⟩
abbrev S1024x1000 : Shape := ⟨2, ![1024, 1000]⟩
abbrev S512x1 : Shape := ⟨2, ![512, 1]⟩
abbrev S512x1000 : Shape := ⟨2, ![512, 1000]⟩
abbrev S512 : Shape := ⟨1, ![512]⟩
abbrev S1x1024 : Shape := ⟨2, ![1, 1024]⟩

abbrev nBuf : Space → Nat
  | .hbm => 18
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S32x128x1000, .i32⟩
  | .hbm, ⟨2, _⟩ => ⟨S32x128x10x10x1x4, .i32⟩
  | .hbm, ⟨3, _⟩ => ⟨S2048x1000, .f32⟩
  | .hbm, ⟨4, _⟩ => ⟨S1000, .f32⟩
  | .hbm, ⟨5, _⟩ => ⟨S2048x1, .f32⟩
  | .hbm, ⟨6, _⟩ => ⟨S1, .f32⟩
  | .hbm, ⟨7, _⟩ => ⟨S1x1000, .f32⟩
  | .hbm, ⟨8, _⟩ => ⟨S1x2048, .f32⟩
  | .hbm, ⟨9, _⟩ => ⟨S1x1, .f32⟩
  | .hbm, ⟨10, _⟩ => ⟨S32x128x1000, .f32⟩
  | .hbm, ⟨11, _⟩ => ⟨S4096x1, .f32⟩
  | .hbm, ⟨12, _⟩ => ⟨S4096x1, .f32⟩
  | .hbm, ⟨13, _⟩ => ⟨S32x128, .f32⟩
  | .hbm, ⟨14, _⟩ => ⟨S4096x1, .i32⟩
  | .hbm, ⟨15, _⟩ => ⟨S32x128, .i32⟩
  | .hbm, ⟨16, _⟩ => ⟨S_, .f32⟩
  | .hbm, ⟨17, _⟩ => ⟨S32, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x128x1000, .i32⟩
  | .local _ .vmem, ⟨5, _⟩ => ⟨S4x128x1000, .i32⟩
  | .local _ .vmem, ⟨6, _⟩ => ⟨S1024x1000, .f32⟩
  | .local _ .vmem, ⟨7, _⟩ => ⟨S1024x1000, .f32⟩
  | .local _ .vmem, ⟨8, _⟩ => ⟨S1x1000, .f32⟩
  | .local _ .vmem, ⟨9, _⟩ => ⟨S1x2048, .f32⟩
  | .local _ .vmem, ⟨10, _⟩ => ⟨S1x1, .f32⟩
  | .local _ .vmem, ⟨11, _⟩ => ⟨S4x128x1000, .f32⟩
  | .local _ .vmem, ⟨12, _⟩ => ⟨S4x128x1000, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0_0 : Ref sig .tc := ⟨.hbm, 10, rfl⟩
abbrev main_call0_v3_1 : Ref sig .tc := ⟨.hbm, 11, rfl⟩
abbrev main_call0_v3_2 : Ref sig .tc := ⟨.hbm, 12, rfl⟩
abbrev main_v0_1 : Ref sig .tc := ⟨.hbm, 13, rfl⟩
abbrev main_call0_v5 : Ref sig .tc := ⟨.hbm, 14, rfl⟩
abbrev main_v0_2 : Ref sig .tc := ⟨.hbm, 15, rfl⟩
abbrev main_call0_cst : Ref sig .tc := ⟨.hbm, 16, rfl⟩
abbrev main_v0_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x1000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x128x1000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x2048 : Shape := ⟨2, ![4096, 2048]⟩
abbrev S32x128x1000 : Shape := ⟨3, ![32, 128, 1000]⟩
abbrev S32x128x10x10x1x4 : Shape := ⟨6, ![32, 128, 10, 10, 1, 4]⟩
abbrev S2048x1000 : Shape := ⟨2, ![2048, 1000]⟩
abbrev S1000 : Shape := ⟨1, ![1000]⟩
abbrev S2048x1 : Shape := ⟨2, ![2048, 1]⟩
abbrev S1 : Shape := ⟨1, ![1]⟩
abbrev S4096x1000 : Shape := ⟨2, ![4096, 1000]⟩
abbrev S1x1000 : Shape := ⟨2, ![1, 1000]⟩
abbrev S4096x1 : Shape := ⟨2, ![4096, 1]⟩
abbrev S1x1 : Shape := ⟨2, ![1, 1]⟩
abbrev S_ : Shape := ⟨0, ![]⟩
abbrev S4096 : Shape := ⟨1, ![4096]⟩
abbrev S32x128 : Shape := ⟨2, ![32, 128]⟩
abbrev S32 : Shape := ⟨1, ![32]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S32x128x1000, .i32⟩
  | .hbm, ⟨2, _⟩ => ⟨S32x128x10x10x1x4, .i32⟩
  | .hbm, ⟨3, _⟩ => ⟨S2048x1000, .f32⟩
  | .hbm, ⟨4, _⟩ => ⟨S1000, .f32⟩
  | .hbm, ⟨5, _⟩ => ⟨S2048x1, .f32⟩
  | .hbm, ⟨6, _⟩ => ⟨S1, .f32⟩
  | .hbm, ⟨7, _⟩ => ⟨S4096x1000, .f32⟩
  | .hbm, ⟨8, _⟩ => ⟨S1x1000, .f32⟩
  | .hbm, ⟨9, _⟩ => ⟨S4096x1000, .f32⟩
  | .hbm, ⟨10, _⟩ => ⟨S4096x1000, .f32⟩
  | .hbm, ⟨11, _⟩ => ⟨S4096x1, .f32⟩
  | .hbm, ⟨12, _⟩ => ⟨S1x1, .f32⟩
  | .hbm, ⟨13, _⟩ => ⟨S4096x1, .f32⟩
  | .hbm, ⟨14, _⟩ => ⟨S4096x1, .f32⟩
  | .hbm, ⟨15, _⟩ => ⟨S32x128x1000, .f32⟩
  | .hbm, ⟨16, _⟩ => ⟨S4096x1000, .f32⟩
  | .hbm, ⟨17, _⟩ => ⟨S_, .f32⟩
  | .hbm, ⟨18, _⟩ => ⟨S4096x1000, .f32⟩
  | .hbm, ⟨19, _⟩ => ⟨S4096x1000, .f32⟩
  | .hbm, ⟨20, _⟩ => ⟨S_, .f32⟩
  | .hbm, ⟨21, _⟩ => ⟨S4096x1000, .f32⟩
  | .hbm, ⟨22, _⟩ => ⟨S4096x1000, .f32⟩
  | .hbm, ⟨23, _⟩ => ⟨S4096x1000, .f32⟩
  | .hbm, ⟨24, _⟩ => ⟨S4096x1000, .i32⟩
  | .hbm, ⟨25, _⟩ => ⟨S_, .f32⟩
  | .hbm, ⟨26, _⟩ => ⟨S_, .i32⟩
  | .hbm, ⟨27, _⟩ => ⟨S4096, .f32⟩
  | .hbm, ⟨28, _⟩ => ⟨S4096, .i32⟩
  | .hbm, ⟨29, _⟩ => ⟨S32x128x1000, .f32⟩
  | .hbm, ⟨30, _⟩ => ⟨S32x128, .f32⟩
  | .hbm, ⟨31, _⟩ => ⟨S32x128, .i32⟩
  | .hbm, ⟨32, _⟩ => ⟨S_, .f32⟩
  | .hbm, ⟨33, _⟩ => ⟨S32, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.KernelRun.lean ====
/-
  The run of the kernel whole, host operations before and after the grid included: the first result is the array of
  output window 8 after the last grid point, the second that of window 9 relaid, the third that of window 10
  converted to integers and relaid, the fourth the zeros that the host writes; the arguments are unchanged.
-/
module

public import proofs.«01_k».proof.Proof.Gen.KernelIdeal.Frame
public import Idealize.ShloMosaic.Lib.StableHlo.Run

@[expose] public section

set_option maxRecDepth 16384

noncomputable section

namespace Cert.Proof.KRun

open Cert.KernelIdeal Cert.KernelIdeal.Gen
open Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The buffers when the grid has run: the windows' arrays at their last contents, the rest as the grid found them. -/
abbrev atExit (c : Dev nD) : Valuation τ sig (Elt F) :=
  Pipeline.withArrays (cfgs 0).spec c (V0 m c) (fun w => (dats m 0 c).arrAt w (cfgs 0).N)

/-- At the grid's exit an array holds its last contents. -/
theorem atExit_arr (c : Dev nD) (w : Fin cfg0.W) :
    atExit m c (Proc.devRef .tc (Pipeline.arrRef spec0 w)) = (dats m 0 c).arrAt w cfg0.N :=
  (dats m 0 c).withArrays_arrAt sharedIn0 (V0 m c) (A_eq m c) w

section Tail
variable (W : Valuation τ sig (Elt F))

/-- The host lines after the grid, at the second result: the baseline column relaid. -/
theorem tail1 : after hostOps1 W (main_v0_1 : DevRef τ sig)
    = shapeCast S32x128 (W (main_call0_v3_1 : DevRef τ sig)) shapeCasts_S4096x1_S32x128 := by
  after_results
  rfl

/-- The host lines after the grid, at the third result: the action column as integers, relaid. -/
theorem tail2 : after hostOps1 W (main_v0_2 : DevRef τ sig)
    = shapeCast S32x128 (fptosi 32 (W (main_call0_v3_2 : DevRef τ sig)) : IVec S4096x1 32) shapeCasts_S4096x1_S32x128 := by
  after_results
  rfl

/-- The host lines after the grid, at the fourth result: zeros. -/
theorem tail3 : after hostOps1 W (main_v0_3 : DevRef τ sig)
    = (broadcastInDim S32 ![] bcast_S_S32 (constant S_ .f32 0x00000000#32) : FVec F S32 .f32) := by
  after_results
  rfl

end Tail

/-- The second result after the run. -/
theorem out1 (c : Dev nD) : Pipeline.afterTail₀ cfgs (dats m) 0 (V0 m) [hostOps1] c main_v0_1
    = shapeCast S32x128 ((dats m 0 c).arrAt 9 cfg0.N) shapeCasts_S4096x1_S32x128 := by
  have e : (atExit m c (main_call0_v3_1 : DevRef τ sig) : FVec F S4096x1 .f32) = (dats m 0 c).arrAt 9 cfg0.N :=
    atExit_arr m c 9
  exact (tail1 (atExit m c)).trans
    (congrArg (fun z : FVec F S4096x1 .f32 => shapeCast S32x128 z shapeCasts_S4096x1_S32x128) e)

/-- The third result after the run. -/
theorem out2 (c : Dev nD) : Pipeline.afterTail₀ cfgs (dats m) 0 (V0 m) [hostOps1] c main_v0_2
    = shapeCast S32x128 (fptosi 32 ((dats m 0 c).arrAt 10 cfg0.N) : IVec S4096x1 32) shapeCasts_S4096x1_S32x128 := by
  have e : (atExit m c (main_call0_v3_2 : DevRef τ sig) : FVec F S4096x1 .f32) = (dats m 0 c).arrAt 10 cfg0.N :=
    atExit_arr m c 10
  exact (tail2 (atExit m c)).trans
    (congrArg (fun z : FVec F S4096x1 .f32 => shapeCast S32x128 (fptosi 32 z : IVec S4096x1 32) shapeCasts_S4096x1_S32x128) e)

/-- The fourth result after the run. -/
theorem out3 (c : Dev nD) : Pipeline.afterTail₀ cfgs (dats m) 0 (V0 m) [hostOps1] c main_v0_3
    = (broadcastInDim S32 ![] bcast_S_S32 (constant S_ .f32 0x00000000#32) : FVec F S32 .f32) :=
  tail3 (atExit m c)

/-- The run of the kernel: its four results over the arrays that the grid leaves, and the arguments unchanged. -/
theorem run : θ_run defs (onTc (τ := τ) (main (F := F))) ⟨m, fun _ => 0, ρ⟩ fun r => ∀ c : Dev nD,
      r.2.mem ((c.tc : Thread nD τ).loc main_v0_0) = (dats m 0 c).arrAt 8 cfg0.N
      ∧ r.2.mem ((c.tc : Thread nD τ).loc main_v0_1)
          = shapeCast S32x128 ((dats m 0 c).arrAt 9 cfg0.N) shapeCasts_S4096x1_S32x128
      ∧ r.2.mem ((c.tc : Thread nD τ).loc main_v0_2)
          = shapeCast S32x128 (fptosi 32 ((dats m 0 c).arrAt 10 cfg0.N) : IVec S4096x1 32) shapeCasts_S4096x1_S32x128
      ∧ r.2.mem ((c.tc : Thread nD τ).loc main_v0_3)
          = (broadcastInDim S32 ![] bcast_S_S32 (constant S_ .f32 0x00000000#32) : FVec F S32 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
      ⟨(h.1 c).1 8,
        ((h.1 c).2 main_v0_1 (Pipeline.mem_restRefs_of main_v0_1 (by decide) (by decide))).trans (out1 m c),
        ((h.1 c).2 main_v0_2 (Pipeline.mem_restRefs_of main_v0_2 (by decide) (by decide))).trans (out2 m c),
        ((h.1 c).2 main_v0_3 (Pipeline.mem_restRefs_of main_v0_3 (by decide) (by decide))).trans (out3 m c),
        h.2 c⟩)
    (θ_run_and (run_main m ρ) (unchanged m ρ))

end Cert.Proof.KRun

end
-- ==== Proof.ArgMax.lean ====
/-
  The first column of the largest value, three ways. `FirstMax X k`: no value of `X` is above the one at `k`, and no
  earlier column holds the same value. A kernel that takes the row maximum, keeps the column number where the value
  equals it and a large number elsewhere, and then takes the least of these numbers finds `k` (`minFold`). A host
  reduction that carries pairs of a value and a column and keeps, of two pairs, the one with the larger value or, at
  equal values, the smaller column finds `k` too (`foldlRed`). And a small column number goes to a float and back
  unchanged (`round_trip`).
-/
module

public import proofs.«01_k».proof.ReferenceIdeal
public import Idealize.ShloMosaic.PureOps.Ideal
public import Idealize.ShloMosaic.PureOps.Ideal.Laws
public import Idealize.ShloMosaic.PureOps.Reduce

@[expose] public section

noncomputable section

namespace Cert.Proof.ArgMax

open Idealize.ShloMosaic

/-- Column `k` holds the largest value of `X`, and no column before it holds that value. -/
def FirstMax {n : Nat} (X : Fin n → EReal) (k : Fin n) : Prop :=
  (∀ b, X b ≤ X k) ∧ ∀ b, X b = X k → k ≤ b

/-- A row of at least one value has such a column. -/
theorem exists_firstMax {n : Nat} (hn : 0 < n) (X : Fin n → EReal) : ∃ k, FirstMax X k := by
  haveI : Nonempty (Fin n) := ⟨⟨0, hn⟩⟩
  obtain ⟨k0, h0⟩ := Finite.exists_max X
  have hne : (Finset.univ.filter fun b => X b = X k0).Nonempty := ⟨k0, by simp⟩
  have hmem := Finset.min'_mem _ hne
  rw [Finset.mem_filter] at hmem
  refine ⟨(Finset.univ.filter fun b => X b = X k0).min' hne, fun b => (h0 b).trans hmem.2.ge, fun b hb => ?_⟩
  exact Finset.min'_le _ _ (by rw [Finset.mem_filter]; exact ⟨Finset.mem_univ _, hb.trans hmem.2⟩)

/-- The running maximum from the least extended real is the value at that column. -/
theorem maxFold {n : Nat} {X : Fin n → EReal} {k : Fin n} (h : FirstMax X k) :
    (Finset.univ : Finset (Fin n)).fold max (⊥ : EReal) X = X k := by
  refine le_antisymm (Finset.fold_max_le _ |>.mpr ⟨bot_le, fun b _ => h.1 b⟩) ?_
  exact (Finset.le_fold_max _).mpr (Or.inr ⟨k, Finset.mem_univ _, le_rfl⟩)

/-- A fold of the signed minimum is its start or one of the values, and is at most each of them. -/
theorem minFold_spec {ι : Type} (s : Finset ι) (b : BitVec 32) (f : ι → BitVec 32) :
    (s.fold IntOp.minsi b f = b ∨ ∃ a ∈ s, s.fold IntOp.minsi b f = f a)
      ∧ (s.fold IntOp.minsi b f).toInt ≤ b.toInt ∧ ∀ a ∈ s, (s.fold IntOp.minsi b f).toInt ≤ (f a).toInt := by
  induction s using Finset.cons_induction with
  | empty => simp
  | cons a s ha ih =>
    obtain ⟨h1, h2, h3⟩ := ih
    rw [Finset.fold_cons]
    generalize Finset.fold IntOp.minsi b f s = z at h1 h2 h3
    have hm : IntOp.minsi (f a) z = if (f a).toInt < z.toInt then f a else z := by
      simp only [IntOp.minsi, BitVec.slt, decide_eq_true_eq]
    rw [hm]
    split_ifs with hlt
    · refine ⟨Or.inr ⟨a, Finset.mem_cons_self _ _, rfl⟩, by omega, fun c hc => ?_⟩
      rcases Finset.mem_cons.mp hc with rfl | hc
      · exact le_rfl
      · have := h3 c hc; omega
    · refine ⟨?_, h2, fun c hc => ?_⟩
      · rcases h1 with h1 | ⟨c, hc, e⟩
        · exact Or.inl h1
        · exact Or.inr ⟨c, Finset.mem_cons.mpr (Or.inr hc), e⟩
      · rcases Finset.mem_cons.mp hc with rfl | hc
        · omega
        · exact h3 c hc

/-- A column number below 1001 read as a signed word is itself. -/
theorem toInt_ofNat_small {k : Nat} (hk : k ≤ 1000) : (BitVec.ofNat 32 k).toInt = (k : Int) := by
  rw [BitVec.toInt_eq_toNat_of_lt (by rw [BitVec.toNat_ofNat]; omega), BitVec.toNat_ofNat]
  omega

/-- The least kept column number is the first column of the largest value. -/
theorem minFold {X : Fin 1000 → EReal} {k : Fin 1000} (h : FirstMax X k) (f : Fin 1000 → BitVec 32)
    (hf : ∀ a, f a = if X a = X k then BitVec.ofNat 32 a.val else 1000#32) :
    (Finset.univ : Finset (Fin 1000)).fold IntOp.minsi 2147483647#32 f = BitVec.ofNat 32 k.val := by
  obtain ⟨h1, h2, h3⟩ := minFold_spec (Finset.univ : Finset (Fin 1000)) 2147483647#32 f
  generalize Finset.fold IntOp.minsi 2147483647#32 f Finset.univ = z at h1 h2 h3
  have hk := h3 k (Finset.mem_univ _)
  rw [hf k, if_pos rfl] at hk
  have hkk := toInt_ofNat_small (k := k.val) (by omega)
  have hk' := k.isLt
  rcases h1 with rfl | ⟨a, -, e⟩
  · have : (2147483647#32).toInt = 2147483647 := by decide
    omega
  · rw [hf a] at e
    by_cases ha : X a = X k
    · rw [if_pos ha] at e
      have haa := toInt_ofNat_small (k := a.val) (by omega)
      have hle : k.val ≤ a.val := h.2 a ha
      subst e
      have : a.val = k.val := by omega
      rw [this]
    · rw [if_neg ha] at e
      subst e
      have : (1000#32).toInt = 1000 := by decide
      omega

/-- Pair `p` is to be kept over pair `q`: a larger value, or the same value and no larger column. -/
def Beats (p q : EReal × BitVec 32) : Prop :=
  q.1 < p.1 ∨ (q.1 = p.1 ∧ p.2.toInt ≤ q.2.toInt)

/-- Every pair may be kept over itself. -/
theorem Beats.refl (p : EReal × BitVec 32) : Beats p p := Or.inr ⟨rfl, le_rfl⟩

/-- The relation chains. -/
theorem Beats.trans {p q r : EReal × BitVec 32} (h : Beats p q) (h' : Beats q r) : Beats p r := by
  rcases h with h | ⟨h, h2⟩ <;> rcases h' with h' | ⟨h', h2'⟩
  · exact Or.inl (h'.trans h)
  · exact Or.inl (h' ▸ h)
  · exact Or.inl (h ▸ h')
  · exact Or.inr ⟨h'.trans h, h2.trans h2'⟩

/-- Of two pairs the reference's comparison keeps one, and the one it keeps may be kept over both. -/
theorem red_spec (a b : EReal × BitVec 32) :
    (Cert.ReferenceIdeal.reducer_argmax_f32_i32 (F := Ideal) a b = a
        ∨ Cert.ReferenceIdeal.reducer_argmax_f32_i32 (F := Ideal) a b = b)
      ∧ Beats (Cert.ReferenceIdeal.reducer_argmax_f32_i32 (F := Ideal) a b) a
      ∧ Beats (Cert.ReferenceIdeal.reducer_argmax_f32_i32 (F := Ideal) a b) b := by
  obtain ⟨x, i⟩ := a
  obtain ⟨y, j⟩ := b
  have key : Cert.ReferenceIdeal.reducer_argmax_f32_i32 (F := Ideal) (x, i) (y, j)
      = if y < x then (x, i) else if x = y ∧ i.toInt < j.toInt then (x, i) else (y, j) := by
    unfold Cert.ReferenceIdeal.reducer_argmax_f32_i32
    simp only [Ideal.cmpf_def, Ideal.cmp, IntOp.ori, IntOp.andi, IntOp.cmpi, Scalar.select, BitVec.slt]
    by_cases h1 : y < x
    · have e : ∀ z : BitVec 1, 1#1 ||| z = 1#1 := by decide
      simp [h1, e]
    · by_cases h2 : x = y
      · subst h2
        by_cases h3 : i.toInt < j.toInt
        · simp [h3]
        · simp [h3]
      · simp [h1, h2]
  rw [key]
  split_ifs with h1 h2
  · exact ⟨Or.inl rfl, Beats.refl _, Or.inl h1⟩
  · exact ⟨Or.inl rfl, Beats.refl _, Or.inr ⟨h2.1.symm, h2.2.le⟩⟩
  · refine ⟨Or.inr rfl, ?_, Beats.refl _⟩
    rcases lt_or_eq_of_le (not_lt.mp h1) with h | h
    · exact Or.inl h
    · exact Or.inr ⟨h, not_lt.mp fun h3 => h2 ⟨h, h3⟩⟩

/-- The reduction of a list of pairs ends at its start or at one of the pairs, and what it ends at may be kept over
    the start and over each of them. -/
theorem foldl_spec (l : List (EReal × BitVec 32)) (p0 : EReal × BitVec 32) :
    (l.foldl (Cert.ReferenceIdeal.reducer_argmax_f32_i32 (F := Ideal)) p0 = p0
        ∨ l.foldl (Cert.ReferenceIdeal.reducer_argmax_f32_i32 (F := Ideal)) p0 ∈ l)
      ∧ Beats (l.foldl (Cert.ReferenceIdeal.reducer_argmax_f32_i32 (F := Ideal)) p0) p0
      ∧ ∀ q ∈ l, Beats (l.foldl (Cert.ReferenceIdeal.reducer_argmax_f32_i32 (F := Ideal)) p0) q := by
  induction l generalizing p0 with
  | nil => exact ⟨Or.inl rfl, Beats.refl _, fun q hq => absurd hq List.not_mem_nil⟩
  | cons a l ih =>
    rw [List.foldl_cons]
    obtain ⟨h1, h2, h3⟩ := ih (Cert.ReferenceIdeal.reducer_argmax_f32_i32 (F := Ideal) p0 a)
    obtain ⟨r1, r2, r3⟩ := red_spec p0 a
    generalize List.foldl (Cert.ReferenceIdeal.reducer_argmax_f32_i32 (F := Ideal))
      (Cert.ReferenceIdeal.reducer_argmax_f32_i32 (F := Ideal) p0 a) l = z at h1 h2 h3 ⊢
    refine ⟨?_, h2.trans r2, fun q hq => ?_⟩
    · rcases h1 with h1 | h1
      · rcases r1 with r1 | r1
        · exact Or.inl (h1.trans r1)
        · exact Or.inr (by rw [h1, r1]; exact List.mem_cons_self)
      · exact Or.inr (List.mem_cons_of_mem _ h1)
    · rcases List.mem_cons.mp hq with rfl | hq
      · exact h2.trans r3
      · exact h3 q hq

/-- The reference's reduction of a row, listed in any order, ends at the first column of the largest value. -/
theorem foldlRed {X : Fin 1000 → EReal} {k : Fin 1000} (h : FirstMax X k) (l : List (EReal × BitVec 32))
    (hin : ∀ a : Fin 1000, (X a, BitVec.ofNat 32 a.val) ∈ l)
    (hout : ∀ p ∈ l, ∃ a : Fin 1000, p = (X a, BitVec.ofNat 32 a.val)) :
    (l.foldl (Cert.ReferenceIdeal.reducer_argmax_f32_i32 (F := Ideal)) ((⊥ : EReal), 0#32)).2
      = BitVec.ofNat 32 k.val := by
  obtain ⟨h1, -, h3⟩ := foldl_spec l ((⊥ : EReal), 0#32)
  have hk := h3 _ (hin k)
  generalize l.foldl (Cert.ReferenceIdeal.reducer_argmax_f32_i32 (F := Ideal)) ((⊥ : EReal), 0#32) = z at h1 hk ⊢
  have hkk := toInt_ofNat_small (k := k.val) (by omega)
  rcases h1 with rfl | hz
  · rcases hk with hk | ⟨hk, -⟩
    · exact absurd hk not_lt_bot
    · have h0 := h.2 ⟨0, by omega⟩ (le_antisymm (h.1 _) (by rw [show X k = ⊥ from hk]; exact bot_le))
      have : k.val = 0 := Nat.le_zero.mp h0
      rw [this]
  · obtain ⟨a, rfl⟩ := hout z hz
    rcases hk with hk | ⟨hk, hle⟩
    · exact absurd hk (not_lt.mpr (h.1 a))
    · have haa := toInt_ofNat_small (k := a.val) (by omega)
      have hka : k.val ≤ a.val := h.2 a hk.symm
      have hle' : (BitVec.ofNat 32 a.val).toInt ≤ (BitVec.ofNat 32 k.val).toInt := hle
      have : a.val = k.val := by omega
      rw [this]

/-- A small column number goes to a float and back unchanged. -/
theorem round_trip {k : Nat} (hk : k ≤ 1000) :
    FloatOps.fptosi 32 (FloatOps.sitofp (F := Ideal) .f32 (BitVec.ofNat 32 k)) = BitVec.ofNat 32 k := by
  show Ideal.fptosi 32 ((((BitVec.ofNat 32 k).toInt : ℝ) : EReal)) = _
  rw [toInt_ofNat_small hk]
  unfold Ideal.fptosi
  have e : Ideal.toIntClamped (-((2 ^ (32 - 1) : Nat) : Int)) (((2 ^ (32 - 1) : Nat) : Int) - 1) ((((k : Int) : ℝ) : EReal)) = (k : Int) := by
    show max _ (min _ (if (0 : ℝ) ≤ ((k : Int) : ℝ) then ⌊((k : Int) : ℝ)⌋ else ⌈((k : Int) : ℝ)⌉)) = _
    rw [if_pos (by exact_mod_cast Nat.zero_le k), Int.floor_intCast]
    norm_num
    omega
  rw [e, BitVec.ofInt_natCast]

end Cert.Proof.ArgMax

end
-- ==== Proof.Block.lean ====
/-
  What one block computes, entry by entry, over the extended reals: the masked scores of a block of 512 rows (two
  half products, the bias, the mask's penalty), their relaying as four slabs of 128 rows, the baseline of a row (two
  half sums and a constant), and the action of a row, the first column of the largest masked score, as a float.
-/
module

public import proofs.«01_k».proof.Proof.ArgMax
public import proofs.«01_k».proof.Proof.Gen.KernelIdeal.Skeleton
public import Idealize.ShloMosaic.Lib.Pipeline.Value
public import Idealize.ShloMosaic.Lib.MatmulPlain
public import Idealize.ShloMosaic.Lib.ValueIdx

@[expose] public section

set_option maxRecDepth 16384

noncomputable section

open scoped BigOperators

namespace Cert.Proof.Block

open Cert.KernelIdeal Cert.KernelIdeal.Gen
open Idealize.ShloMosaic Idealize.ShloMosaic.ValueIdx
open Cert.Proof.ArgMax

/-- The penalty of a mask word: nothing where the word is one, a huge number where it is zero. -/
def penalty (w : BitVec 32) : EReal :=
  (Ideal.ofBits .f32 0x3F800000#32 - ((w.toInt : ℝ) : EReal)) * Ideal.ofBits .f32 0x60AD78EC#32

/-- One half product of a block at row `p`, column `a`. -/
theorem half_apply (x : FVec Ideal S512x1024 .f32) (y : FVec Ideal S1024x1000 .f32) (p : Fin 512) (a : Fin 1000) :
    matmul dot_S512x1024_S1024x1000_S512x1000_1_0_0_1_n_n none x y (constant S512x1000 .f32 0x00000000#32) (ix2 p a)
      = ∑ k : Fin 1024, x (ix2 p k) * y (ix2 k a) := by
  show FloatOps.matmul (DotDims.plain 512 1024 1000) none x y (constant S512x1000 .f32 0x00000000#32) (ix2 p a) = _
  rw [Ideal.matmul_plain_apply, constant_apply, Ideal.ofBits_zero_f32, zero_add]

/-- The bias row spread down the rows. -/
theorem bias_apply (x : FVec Ideal S1x1000 .f32) (p : Fin 512) (a : Fin 1000) :
    broadcastTo S512x1000 (shapeCast S1x1000 x shapeCasts_S1x1000_S1x1000) broadcasts_S1x1000_S512x1000 (ix2 p a)
      = x (ix2 0 a) := by
  rw [shapeCast_self]
  exact broadcastTo_apply x _ (ix2 p a) (ix2 0 a) (by intro d; match d with | ⟨0, _⟩ => rfl | ⟨1, _⟩ => rfl)

/-- Slabs of 128 rows laid one under another: row `p` of the block is row `p % 128` of slab `p / 128`. -/
theorem slab_apply {α : Type} (x : S4x128x1000.Idx → α) (p : Fin 512) (a : Fin 1000) :
    shapeCast S512x1000 x shapeCasts_S4x128x1000_S512x1000 (ix2 p a)
      = x (ix3 (⟨p.val / 128, by omega⟩ : Fin 4) (⟨p.val % 128, by omega⟩ : Fin 128) a) := by
  refine shapeCast_apply x _ _ _ ?_
  rw [Shape.rowMajor_val_three, Shape.rowMajor_val_two]
  show (p.val / 128 * 128 + p.val % 128) * 1000 + a.val = p.val * 1000 + a.val
  omega

/-- The masked score of row `p`, column `a` of a block. -/
theorem pay2_apply (v0 v1 : FVec Ideal S512x1024 .f32) (v2 v4 : FVec Ideal S1024x1000 .f32) (v7 : FVec Ideal S1x1000 .f32)
    (v11 : IVec S4x128x1000 32) (p : Fin 512) (a : Fin 1000) :
    k0_pay2 (F := Ideal) v0 v1 v2 v4 v7 v11 (ix2 p a)
      = (∑ k : Fin 1024, v0 (ix2 p k) * v2 (ix2 k a)) + (∑ k : Fin 1024, v1 (ix2 p k) * v4 (ix2 k a)) + v7 (ix2 0 a)
        - penalty (v11 (ix3 (⟨p.val / 128, by omega⟩ : Fin 4) (⟨p.val % 128, by omega⟩ : Fin 128) a)) := by
  unfold k0_pay2
  rw [subf_apply, addf_apply, addf_apply, half_apply, half_apply, bias_apply, mulf_apply, subf_apply, sitofp_apply, slab_apply]
  rfl

/-- The masked scores relaid as slabs: row `q` of slab `s` is row `128 s + q` of the block. -/
theorem pay3_apply (v0 v1 : FVec Ideal S512x1024 .f32) (v2 v4 : FVec Ideal S1024x1000 .f32) (v7 : FVec Ideal S1x1000 .f32)
    (v11 : IVec S4x128x1000 32) (s : Fin 4) (q : Fin 128) (a : Fin 1000) :
    k0_pay3 (F := Ideal) v0 v1 v2 v4 v7 v11 (ix3 s q a)
      = k0_pay2 (F := Ideal) v0 v1 v2 v4 v7 v11 (ix2 (⟨s.val * 128 + q.val, by omega⟩ : Fin 512) a) := by
  unfold k0_pay3
  refine shapeCast_apply _ _ _ _ ?_
  rw [Shape.rowMajor_val_three, Shape.rowMajor_val_two]
  rfl

/-- A column of 512 entries as a 512 by 1 array. -/
theorem col_apply {α : Type} (x : S512.Idx → α) (p : Fin 512) :
    shapeCast S512x1 x shapeCasts_S512_S512x1 (ix2 p 0) = x (ix1 p) := by
  refine shapeCast_apply x _ _ _ ?_
  rw [Shape.rowMajor_val_one, Shape.rowMajor_val_two]
  show p.val = p.val * 1 + 0
  omega

/-- The indices that reduce to row `p`: row `p` at each column. -/
theorem lift1000 (p : Fin 512) (k : Fin 1000) :
    (reduces_S512x1000_S512 : S512x1000.Reduces [1] S512).lift (ix1 p) k = ix2 p k := by
  funext d; match d with | ⟨0, _⟩ => rfl | ⟨1, _⟩ => rfl

/-- The same for the half rows of the input. -/
theorem lift1024 (p : Fin 512) (k : Fin 1024) :
    (reduces_S512x1024_S512 : S512x1024.Reduces [1] S512).lift (ix1 p) k = ix2 p k := by
  funext d; match d with | ⟨0, _⟩ => rfl | ⟨1, _⟩ => rfl

/-- The largest entry of a row, spread over the row. -/
theorem rowMax_apply (x : FVec Ideal S512x1000 .f32) (p : Fin 512) (a k : Fin 1000)
    (h : FirstMax (fun b => x (ix2 p b)) k) :
    broadcastTo S512x1000 (shapeCast S512x1 (multiReduction .maximumf [1] S512 x 0xFF800000#32 reduces_S512x1000_S512 (.inl rfl) rfl)
      shapeCasts_S512_S512x1) broadcasts_S512x1_S512x1000 (ix2 p a) = x (ix2 p k) := by
  rw [broadcastTo_apply _ broadcasts_S512x1_S512x1000 (ix2 p a) (ix2 p 0)
      (by intro d; match d with | ⟨0, _⟩ => rfl | ⟨1, _⟩ => rfl), col_apply]
  refine (Ideal.multiReduction_maximumf_single x _ _ _ _ (ix1 p)).trans ?_
  have e0 : (FloatOps.ofBits (F := Ideal) .f32 0xFF800000#32 : EReal) = ⊥ := by
    show Ideal.ofBits .f32 0xFF800000#32 = ⊥
    simp [Ideal.ofBits, Ideal.ieee]
  have e1 : (x ∘ (reduces_S512x1000_S512 : S512x1000.Reduces [1] S512).lift (ix1 p)) = fun b : Fin 1000 => x (ix2 p b) :=
    funext fun b => congrArg x (lift1000 p b)
  rw [e0, e1]
  exact maxFold h

/-- The least column at which a row meets its largest entry `M`. -/
theorem act_apply (x M : FVec Ideal S512x1000 .f32) (p : Fin 512) (k : Fin 1000) (h : FirstMax (fun b => x (ix2 p b)) k)
    (hM : ∀ a : Fin 1000, M (ix2 p a) = x (ix2 p k)) :
    multiReductionI .minsi [1] S512 (select (cmpf .oeq x M) (iota .tc S512x1000 32 [1] iota_S512x1000_d1_w32)
      (broadcast S512x1000 1000#32)) 2147483647#32 reduces_S512x1000_S512 rfl (ix1 p) = BitVec.ofNat 32 k.val := by
  refine (multiReductionI_eq_fold _ _ _ _ _ (ix1 p)).trans ?_
  rw [(reduces_S512x1000_S512 : S512x1000.Reduces [1] S512).fold_filter_drop_single]
  refine minFold h _ fun a => ?_
  show select (cmpf .oeq x M) (iota .tc S512x1000 32 [1] iota_S512x1000_d1_w32) (broadcast S512x1000 1000#32)
    ((reduces_S512x1000_S512 : S512x1000.Reduces [1] S512).lift (ix1 p) a) = _
  rw [lift1000, select_apply, cmpf_apply, hM a, iota_single_apply]
  show Scalar.select (Ideal.cmp .oeq (x (ix2 p a)) (x (ix2 p k))) (BitVec.ofNat 32 a.val) 1000#32 = _
  by_cases e : x (ix2 p a) = x (ix2 p k)
  · rw [if_pos e]
    simp [Ideal.cmp, e, Scalar.select]
  · rw [if_neg e]
    simp [Ideal.cmp, e, Scalar.select]

/-- The action of row `p`: the first column of the largest entry, as a float. -/
theorem pay4_apply (v0 v1 : FVec Ideal S512x1024 .f32) (v2 v4 : FVec Ideal S1024x1000 .f32) (v7 : FVec Ideal S1x1000 .f32)
    (v11 : IVec S4x128x1000 32) (p : Fin 512) (k : Fin 1000)
    (h : FirstMax (fun b => k0_pay2 (F := Ideal) v0 v1 v2 v4 v7 v11 (ix2 p b)) k) :
    k0_pay4 (F := Ideal) v0 v1 v2 v4 v7 v11 (ix2 p 0) = FloatOps.sitofp (F := Ideal) .f32 (BitVec.ofNat 32 k.val) := by
  unfold k0_pay4
  generalize k0_pay2 (F := Ideal) v0 v1 v2 v4 v7 v11 = x at h ⊢
  rw [col_apply, sitofp_apply]
  exact congrArg _ (act_apply x _ p k h fun a => rowMax_apply x p a k h)

/-- One half sum of the baseline of row `p`. -/
theorem halfSum_apply (x : FVec Ideal S512x1024 .f32) (w : FVec Ideal S1x1024 .f32) (p : Fin 512) :
    shapeCast S512x1 (multiReduction .add [1] S512 (mulf x (broadcastTo S512x1024 w broadcasts_S1x1024_S512x1024)) 0x00000000#32
      reduces_S512x1024_S512 (.inl rfl) rfl) shapeCasts_S512_S512x1 (ix2 p 0)
      = ∑ k : Fin 1024, x (ix2 p k) * w (ix2 0 k) := by
  rw [col_apply]
  refine (Ideal.multiReduction_add_single _ _ _ _ _ (ix1 p)).trans ?_
  refine Finset.sum_congr rfl fun (k : Fin 1024) _ => ?_
  rw [lift1024, mulf_apply]
  exact congrArg (x (ix2 p k) * ·) (broadcastTo_apply w _ (ix2 p k) (ix2 0 k)
    (by intro d; match d with | ⟨0, _⟩ => rfl | ⟨1, _⟩ => rfl))

/-- The baseline of row `p` of a block. -/
theorem pay1_apply (v0 v1 : FVec Ideal S512x1024 .f32) (v32 : FVec Ideal S1x2048 .f32) (v45 : FVec Ideal S1x1 .f32) (p : Fin 512) :
    k0_pay1 (F := Ideal) v0 v1 v32 v45 (ix2 p 0)
      = (∑ k : Fin 1024, v0 (ix2 p k) * v32 (ix2 0 (⟨k.val, by omega⟩ : Fin 2048)))
        + (∑ k : Fin 1024, v1 (ix2 p k) * v32 (ix2 0 (⟨1024 + k.val, by omega⟩ : Fin 2048))) + v45 (ix2 0 0) := by
  unfold k0_pay1
  rw [addf_apply, addf_apply, halfSum_apply, halfSum_apply, shapeCast_self, shapeCast_self]
  congr 1
  · congr 1
    · refine Finset.sum_congr rfl fun (k : Fin 1024) _ => congrArg (v0 (ix2 p k) * ·) ?_
      exact extractStridedSlice_apply _ v32 _ _ _ (by intro d; match d with | ⟨0, _⟩ => rfl | ⟨1, _⟩ => exact (Nat.zero_add _).symm)
    · refine Finset.sum_congr rfl fun (k : Fin 1024) _ => congrArg (v1 (ix2 p k) * ·) ?_
      exact extractStridedSlice_apply _ v32 _ _ _ (by intro d; match d with | ⟨0, _⟩ => rfl | ⟨1, _⟩ => rfl)
  · exact broadcastTo_apply v45 _ (ix2 p 0) (ix2 0 0) (by intro d; match d with | ⟨0, _⟩ => rfl | ⟨1, _⟩ => rfl)

end Cert.Proof.Block

end
-- ==== Proof.Spec.lean ====
/-
  The values that both programs compute, as plain sums over the extended reals: the masked score of a row and a
  column, the baseline of a row, the action of a row.
-/
module

public import proofs.«01_k».proof.Proof.Block

@[expose] public section

noncomputable section

open scoped BigOperators

namespace Cert.Proof.Spec

open Idealize.ShloMosaic Idealize.ShloMosaic.ValueIdx
open Cert.Proof.ArgMax Cert.Proof.Block

/-- The row length as one sum over its two halves. -/
theorem sum_halves (f : Fin 2048 → EReal) :
    (∑ k : Fin 1024, f (⟨k.val, by omega⟩ : Fin 2048)) + (∑ k : Fin 1024, f (⟨1024 + k.val, by omega⟩ : Fin 2048))
      = ∑ k : Fin 2048, f k :=
  (Fin.sum_univ_add (a := 1024) (b := 1024) f).symm

/-- The masked score of row `r`, column `a`: the product of the row with the weights' column, plus the bias, less
    the mask's penalty. -/
def score (a0 : FVec Ideal ⟨2, ![4096, 2048]⟩ .f32) (a1 : IVec ⟨3, ![32, 128, 1000]⟩ 32) (a3 : FVec Ideal ⟨2, ![2048, 1000]⟩ .f32)
    (a4 : FVec Ideal ⟨1, ![1000]⟩ .f32) (r : Fin 4096) (a : Fin 1000) : EReal :=
  (∑ k : Fin 2048, a0 (ix2 r k) * a3 (ix2 k a)) + a4 (ix1 a)
    - penalty (a1 (ix3 (⟨r.val / 128, by omega⟩ : Fin 32) (⟨r.val % 128, by omega⟩ : Fin 128) a))

/-- The baseline of row `r`: the product of the row with the baseline weights, plus the baseline bias. -/
def baseline (a0 : FVec Ideal ⟨2, ![4096, 2048]⟩ .f32) (a5 : FVec Ideal ⟨2, ![2048, 1]⟩ .f32) (a6 : FVec Ideal ⟨1, ![1]⟩ .f32)
    (r : Fin 4096) : EReal :=
  (∑ k : Fin 2048, a0 (ix2 r k) * a5 (ix2 k 0)) + a6 (ix1 0)

/-- The action of row `r`: the first column of its largest masked score. -/
def action (a0 : FVec Ideal ⟨2, ![4096, 2048]⟩ .f32) (a1 : IVec ⟨3, ![32, 128, 1000]⟩ 32) (a3 : FVec Ideal ⟨2, ![2048, 1000]⟩ .f32)
    (a4 : FVec Ideal ⟨1, ![1000]⟩ .f32) (r : Fin 4096) : Fin 1000 :=
  Classical.choose (exists_firstMax (by decide) (score a0 a1 a3 a4 r))

/-- The action is the first column of the largest masked score. -/
theorem action_spec (a0 : FVec Ideal ⟨2, ![4096, 2048]⟩ .f32) (a1 : IVec ⟨3, ![32, 128, 1000]⟩ 32)
    (a3 : FVec Ideal ⟨2, ![2048, 1000]⟩ .f32) (a4 : FVec Ideal ⟨1, ![1000]⟩ .f32) (r : Fin 4096) :
    FirstMax (score a0 a1 a3 a4 r) (action a0 a1 a3 a4 r) :=
  Classical.choose_spec (exists_firstMax (by decide) (score a0 a1 a3 a4 r))

end Cert.Proof.Spec

end
-- ==== Proof.Array.lean ====
/-
  What the kernel's three output arrays hold after the last grid point, entry by entry: the blocks of the inputs at a
  grid point read off the arguments, the block's values from the block's module, and the blocks tiling the arrays.
-/
module

public import proofs.«01_k».proof.Proof.Spec
public import proofs.«01_k».proof.Proof.Gen.KernelIdeal.Frame
public import Idealize.ShloMosaic.Lib.StableHlo.Run

@[expose] public section

set_option maxRecDepth 16384

noncomputable section

open scoped BigOperators

namespace Cert.Proof.Arr

open Cert.KernelIdeal Cert.KernelIdeal.Gen
open Idealize.ShloMosaic Idealize.ShloMosaic.TcCoe Idealize.SL.Sem
open Idealize.ShloMosaic.StableHlo Idealize.ShloMosaic.ValueIdx
open Cert.Proof.ArgMax Cert.Proof.Block Cert.Proof.Spec

variable (m : (ℓ : Loc nD τ sig) → Buf (Elt Ideal) ℓ)

/-! ## The arguments, as arrays -/

/-- The input rows. -/
abbrev A0 (c : Dev nD) : FVec Ideal ⟨2, ![4096, 2048]⟩ .f32 := m ((c.tc : Thread nD τ).loc main_arg0)
/-- The mask words. -/
abbrev A1 (c : Dev nD) : IVec ⟨3, ![32, 128, 1000]⟩ 32 := m ((c.tc : Thread nD τ).loc main_arg1)
/-- The policy weights. -/
abbrev A3 (c : Dev nD) : FVec Ideal ⟨2, ![2048, 1000]⟩ .f32 := m ((c.tc : Thread nD τ).loc main_arg3)
/-- The policy bias. -/
abbrev A4 (c : Dev nD) : FVec Ideal ⟨1, ![1000]⟩ .f32 := m ((c.tc : Thread nD τ).loc main_arg4)
/-- The baseline weights. -/
abbrev A5 (c : Dev nD) : FVec Ideal ⟨2, ![2048, 1]⟩ .f32 := m ((c.tc : Thread nD τ).loc main_arg5)
/-- The baseline bias. -/
abbrev A6 (c : Dev nD) : FVec Ideal ⟨1, ![1]⟩ .f32 := m ((c.tc : Thread nD τ).loc main_arg6)

/-! ## The relaid arguments that the host hands to the grid -/

/-- The bias as one row. -/
theorem V_bias (c : Dev nD) : (V m c main_call0_v0 : FVec Ideal S1x1000 .f32) = shapeCast S1x1000 (A4 m c) shapeCasts_S1000_S1x1000 := by
  show after (List.flatten [hostOps0]) (fun b => m (c, b)) (main_call0_v0 : DevRef τ sig) = _
  simp only [List.flatten_cons, List.flatten_nil, List.append_nil]
  after_results
  rfl

/-- The baseline weights as one row. -/
theorem V_bw (c : Dev nD) : (V m c main_call0_v1 : FVec Ideal S1x2048 .f32) = shapeCast S1x2048 (A5 m c) shapeCasts_S2048x1_S1x2048 := by
  show after (List.flatten [hostOps0]) (fun b => m (c, b)) (main_call0_v1 : DevRef τ sig) = _
  simp only [List.flatten_cons, List.flatten_nil, List.append_nil]
  after_results
  rfl

/-- The baseline bias as a 1 by 1 array. -/
theorem V_bb (c : Dev nD) : (V m c main_call0_v2 : FVec Ideal S1x1 .f32) = shapeCast S1x1 (A6 m c) shapeCasts_S1_S1x1 := by
  show after (List.flatten [hostOps0]) (fun b => m (c, b)) (main_call0_v2 : DevRef τ sig) = _
  simp only [List.flatten_cons, List.flatten_nil, List.append_nil]
  after_results
  rfl

/-! ## Which block each window takes at a grid point -/

/-- The block index of the left halves of the rows. -/
theorem idx0 : ∀ t : Fin cfg0.N, win0_0.index t 0 = t.val ∧ win0_0.index t 1 = 0 :=
  (by decide +kernel : ∀ t : Fin grid0.N, win0_0.index t 0 = t.val ∧ win0_0.index t 1 = 0)
/-- The block index of the right halves of the rows. -/
theorem idx1 : ∀ t : Fin cfg0.N, win0_1.index t 0 = t.val ∧ win0_1.index t 1 = 1 :=
  (by decide +kernel : ∀ t : Fin grid0.N, win0_1.index t 0 = t.val ∧ win0_1.index t 1 = 1)
/-- The block index of the mask. -/
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
/-- The block index of the upper half of the policy weights. -/
theorem idx3 : ∀ t : Fin cfg0.N, win0_3.index t 0 = 0 ∧ win0_3.index t 1 = 0 :=
  (by decide +kernel : ∀ t : Fin grid0.N, win0_3.index t 0 = 0 ∧ win0_3.index t 1 = 0)
/-- The block index of the lower half of the policy weights. -/
theorem idx4 : ∀ t : Fin cfg0.N, win0_4.index t 0 = 1 ∧ win0_4.index t 1 = 0 :=
  (by decide +kernel : ∀ t : Fin grid0.N, win0_4.index t 0 = 1 ∧ win0_4.index t 1 = 0)
/-- The block index of the policy bias. -/
theorem idx5 : ∀ t : Fin cfg0.N, win0_5.index t 0 = 0 ∧ win0_5.index t 1 = 0 :=
  (by decide +kernel : ∀ t : Fin grid0.N, win0_5.index t 0 = 0 ∧ win0_5.index t 1 = 0)
/-- The block index of the baseline weights. -/
theorem idx6 : ∀ t : Fin cfg0.N, win0_6.index t 0 = 0 ∧ win0_6.index t 1 = 0 :=
  (by decide +kernel : ∀ t : Fin grid0.N, win0_6.index t 0 = 0 ∧ win0_6.index t 1 = 0)
/-- The block index of the baseline bias. -/
theorem idx7 : ∀ t : Fin cfg0.N, win0_7.index t 0 = 0 ∧ win0_7.index t 1 = 0 :=
  (by decide +kernel : ∀ t : Fin grid0.N, win0_7.index t 0 = 0 ∧ win0_7.index t 1 = 0)
/-- The block index of the scores. -/
theorem idx8 : ∀ t : Fin cfg0.N, win0_8.index t 0 = t.val ∧ win0_8.index t 1 = 0 ∧ win0_8.index t 2 = 0 :=
  (by decide +kernel : ∀ t : Fin grid0.N, win0_8.index t 0 = t.val ∧ win0_8.index t 1 = 0 ∧ win0_8.index t 2 = 0)
/-- The block index of the baselines. -/
theorem idx9 : ∀ t : Fin cfg0.N, win0_9.index t 0 = t.val ∧ win0_9.index t 1 = 0 :=
  (by decide +kernel : ∀ t : Fin grid0.N, win0_9.index t 0 = t.val ∧ win0_9.index t 1 = 0)
/-- The block index of the actions. -/
theorem idx10 : ∀ t : Fin cfg0.N, win0_10.index t 0 = t.val ∧ win0_10.index t 1 = 0 :=
  (by decide +kernel : ∀ t : Fin grid0.N, win0_10.index t 0 = t.val ∧ win0_10.index t 1 = 0)

/-- The grid has eight points. -/
theorem lt8 (t : Fin cfg0.N) : t.val < 8 := (N_0 : cfg0.N = 8) ▸ t.isLt

/-- Row `p` of block `t`, among all rows. -/
abbrev row (t : Fin cfg0.N) (p : Fin 512) : Fin 4096 := ⟨t.val * 512 + p.val, by have := lt8 t; omega⟩

/-! ## The input blocks at a grid point, entry by entry -/

section Blocks
variable (c : Dev nD) (t : Fin cfg0.N)

/-- The left halves of block `t`'s rows. -/
theorem blk0 (p : Fin 512) (k : Fin 1024) :
    (iblk m c 0 t : FVec Ideal S512x1024 .f32) (ix2 p k) = A0 m c (ix2 (row t p) (⟨k.val, by omega⟩ : Fin 2048)) := by
  show V m c main_arg0 (((cfg0.win 0).blk t).view.emb (ix2 p k)) = _
  rw [V_main_arg0]
  refine congrArg _ (funext fun a => Fin.ext ?_)
  obtain ⟨e0, e1⟩ := idx0 t
  match a with
  | ⟨0, _⟩ => show win0_0.index t 0 * 512 + 1 * p.val = t.val * 512 + p.val; omega
  | ⟨1, _⟩ => show win0_0.index t 1 * 1024 + 1 * k.val = k.val; omega

/-- The right halves of block `t`'s rows. -/
theorem blk1 (p : Fin 512) (k : Fin 1024) :
    (iblk m c 1 t : FVec Ideal S512x1024 .f32) (ix2 p k) = A0 m c (ix2 (row t p) (⟨1024 + k.val, by omega⟩ : Fin 2048)) := by
  show V m c main_arg0 (((cfg0.win 1).blk t).view.emb (ix2 p k)) = _
  rw [V_main_arg0]
  refine congrArg _ (funext fun a => Fin.ext ?_)
  obtain ⟨e0, e1⟩ := idx1 t
  match a with
  | ⟨0, _⟩ => show win0_1.index t 0 * 512 + 1 * p.val = t.val * 512 + p.val; omega
  | ⟨1, _⟩ => show win0_1.index t 1 * 1024 + 1 * k.val = 1024 + k.val; omega

/-- Block `t` of the mask. -/
theorem blk2 (s : Fin 4) (q : Fin 128) (a : Fin 1000) :
    (iblk m c 2 t : IVec S4x128x1000 32) (ix3 s q a)
      = A1 m c (ix3 (⟨t.val * 4 + s.val, by have := lt8 t; omega⟩ : Fin 32) q a) := by
  show V m c main_arg1 (((cfg0.win 2).blk t).view.emb (ix3 s q a)) = _
  rw [V_main_arg1]
  refine congrArg _ (funext fun d => Fin.ext ?_)
  obtain ⟨e0, e1, e2⟩ := idx2 t
  match d with
  | ⟨0, _⟩ => show win0_2.index t 0 * 4 + 1 * s.val = t.val * 4 + s.val; omega
  | ⟨1, _⟩ => show win0_2.index t 1 * 128 + 1 * q.val = q.val; omega
  | ⟨2, _⟩ => show win0_2.index t 2 * 1000 + 1 * a.val = a.val; omega

/-- The upper half of the policy weights. -/
theorem blk3 (k : Fin 1024) (a : Fin 1000) :
    (iblk m c 3 t : FVec Ideal S1024x1000 .f32) (ix2 k a) = A3 m c (ix2 (⟨k.val, by omega⟩ : Fin 2048) a) := by
  show V m c main_arg3 (((cfg0.win 3).blk t).view.emb (ix2 k a)) = _
  rw [V_main_arg3]
  refine congrArg _ (funext fun d => Fin.ext ?_)
  obtain ⟨e0, e1⟩ := idx3 t
  match d with
  | ⟨0, _⟩ => show win0_3.index t 0 * 1024 + 1 * k.val = k.val; omega
  | ⟨1, _⟩ => show win0_3.index t 1 * 1000 + 1 * a.val = a.val; omega

/-- The lower half of the policy weights. -/
theorem blk4 (k : Fin 1024) (a : Fin 1000) :
    (iblk m c 4 t : FVec Ideal S1024x1000 .f32) (ix2 k a) = A3 m c (ix2 (⟨1024 + k.val, by omega⟩ : Fin 2048) a) := by
  show V m c main_arg3 (((cfg0.win 4).blk t).view.emb (ix2 k a)) = _
  rw [V_main_arg3]
  refine congrArg _ (funext fun d => Fin.ext ?_)
  obtain ⟨e0, e1⟩ := idx4 t
  match d with
  | ⟨0, _⟩ => show win0_4.index t 0 * 1024 + 1 * k.val = 1024 + k.val; omega
  | ⟨1, _⟩ => show win0_4.index t 1 * 1000 + 1 * a.val = a.val; omega

/-- The bias row. -/
theorem blk5 (a : Fin 1000) : (iblk m c 5 t : FVec Ideal S1x1000 .f32) (ix2 0 a) = A4 m c (ix1 a) := by
  have e : ((cfg0.win 5).blk t).view.emb (ix2 0 a) = (ix2 0 a : S1x1000.Idx) := by
    obtain ⟨e0, e1⟩ := idx5 t
    refine funext fun d => Fin.ext ?_
    match d with
    | ⟨0, _⟩ => show win0_5.index t 0 * 1 + 1 * 0 = 0; omega
    | ⟨1, _⟩ => show win0_5.index t 1 * 1000 + 1 * a.val = a.val; omega
  refine (congrArg (V m c main_call0_v0) e).trans ((congrFun (V_bias m c) (ix2 0 a)).trans ?_)
  refine shapeCast_apply _ _ _ _ ?_
  rw [Shape.rowMajor_val_one, Shape.rowMajor_val_two]
  show a.val = 0 * 1000 + a.val
  omega

/-- The baseline weights' row. -/
theorem blk6 (k : Fin 2048) : (iblk m c 6 t : FVec Ideal S1x2048 .f32) (ix2 0 k) = A5 m c (ix2 k 0) := by
  have e : ((cfg0.win 6).blk t).view.emb (ix2 0 k) = (ix2 0 k : S1x2048.Idx) := by
    obtain ⟨e0, e1⟩ := idx6 t
    refine funext fun d => Fin.ext ?_
    match d with
    | ⟨0, _⟩ => show win0_6.index t 0 * 1 + 1 * 0 = 0; omega
    | ⟨1, _⟩ => show win0_6.index t 1 * 2048 + 1 * k.val = k.val; omega
  refine (congrArg (V m c main_call0_v1) e).trans ((congrFun (V_bw m c) (ix2 0 k)).trans ?_)
  refine shapeCast_apply _ _ _ _ ?_
  rw [Shape.rowMajor_val_two, Shape.rowMajor_val_two]
  show k.val * 1 + 0 = 0 * 2048 + k.val
  omega

/-- The baseline bias. -/
theorem blk7 : (iblk m c 7 t : FVec Ideal S1x1 .f32) (ix2 0 0) = A6 m c (ix1 0) := by
  have e : ((cfg0.win 7).blk t).view.emb (ix2 0 0) = (ix2 0 0 : S1x1.Idx) := by
    obtain ⟨e0, e1⟩ := idx7 t
    refine funext fun d => Fin.ext ?_
    match d with
    | ⟨0, _⟩ => show win0_7.index t 0 * 1 + 1 * 0 = 0; omega
    | ⟨1, _⟩ => show win0_7.index t 1 * 1 + 1 * 0 = 0; omega
  refine (congrArg (V m c main_call0_v2) e).trans ((congrFun (V_bb m c) (ix2 0 0)).trans ?_)
  refine shapeCast_apply _ _ _ _ ?_
  rw [Shape.rowMajor_val_one, Shape.rowMajor_val_two]
  rfl

/-- A masked score of block `t` is the masked score of its row. -/
theorem scores_blk (p : Fin 512) (a : Fin 1000) :
    k0_pay2 (F := Ideal) (iblk m c 0 t) (iblk m c 1 t) (iblk m c 3 t) (iblk m c 4 t) (iblk m c 5 t) (iblk m c 2 t) (ix2 p a)
      = score (A0 m c) (A1 m c) (A3 m c) (A4 m c) (row t p) a := by
  refine (pay2_apply _ _ _ _ _ _ p a).trans ?_
  unfold score
  rw [← sum_halves fun k => A0 m c (ix2 (row t p) k) * A3 m c (ix2 k a), blk5, blk2]
  simp only [blk0, blk1, blk3, blk4]
  have e : (ix3 (⟨t.val * 4 + p.val / 128, by have := lt8 t; omega⟩ : Fin 32) (⟨p.val % 128, by omega⟩ : Fin 128) a
      : (⟨3, ![32, 128, 1000]⟩ : Shape).Idx)
      = ix3 (⟨(row t p).val / 128, by omega⟩ : Fin 32) (⟨(row t p).val % 128, by omega⟩ : Fin 128) a := by
    refine funext fun d => Fin.ext ?_
    match d with
    | ⟨0, _⟩ => show t.val * 4 + p.val / 128 = (t.val * 512 + p.val) / 128; omega
    | ⟨1, _⟩ => show p.val % 128 = (t.val * 512 + p.val) % 128; omega
    | ⟨2, _⟩ => rfl
  rw [← e]

/-- The baseline of a row of block `t`. -/
theorem base_blk (p : Fin 512) :
    k0_pay1 (F := Ideal) (iblk m c 0 t) (iblk m c 1 t) (iblk m c 6 t) (iblk m c 7 t) (ix2 p 0)
      = baseline (A0 m c) (A5 m c) (A6 m c) (row t p) := by
  refine (pay1_apply _ _ _ _ p).trans ?_
  unfold baseline
  rw [← sum_halves fun k => A0 m c (ix2 (row t p) k) * A5 m c (ix2 k 0), blk7]
  simp only [blk0, blk1, blk6]

/-- The action of a row of block `t`, as a float. -/
theorem action_blk (p : Fin 512) :
    k0_pay4 (F := Ideal) (iblk m c 0 t) (iblk m c 1 t) (iblk m c 3 t) (iblk m c 4 t) (iblk m c 5 t) (iblk m c 2 t) (ix2 p 0)
      = FloatOps.sitofp (F := Ideal) .f32 (BitVec.ofNat 32 (action (A0 m c) (A1 m c) (A3 m c) (A4 m c) (row t p)).val) := by
  refine pay4_apply _ _ _ _ _ _ p _ ?_
  have e : (fun b : Fin 1000 => k0_pay2 (F := Ideal) (iblk m c 0 t) (iblk m c 1 t) (iblk m c 3 t) (iblk m c 4 t) (iblk m c 5 t)
      (iblk m c 2 t) (ix2 p b)) = score (A0 m c) (A1 m c) (A3 m c) (A4 m c) (row t p) :=
    funext fun b => scores_blk m c t p b
  rw [e]
  exact action_spec _ _ _ _ _

end Blocks

/-! ## The three output arrays -/

/-- The masked scores, as slabs of 128 rows. -/
def G8 (c : Dev nD) : FVec Ideal S32x128x1000 .f32 := fun i =>
  score (A0 m c) (A1 m c) (A3 m c) (A4 m c)
    ⟨(i 0).val * 128 + (i 1).val, by have h0 : (i 0).val < 32 := (i 0).isLt; have h1 : (i 1).val < 128 := (i 1).isLt; omega⟩ (i 2)

/-- The baselines, as a column. -/
def G9 (c : Dev nD) : FVec Ideal S4096x1 .f32 := fun i => baseline (A0 m c) (A5 m c) (A6 m c) (i 0)

/-- The actions as floats, as a column. -/
def G10 (c : Dev nD) : FVec Ideal S4096x1 .f32 := fun i =>
  FloatOps.sitofp (F := Ideal) .f32 (BitVec.ofNat 32 (action (A0 m c) (A1 m c) (A3 m c) (A4 m c) (i 0)).val)

/-- The zero offsets of a matrix. -/
theorem hz2 : (![0, 0] : Fin 2 → Nat) = fun _ => 0 := funext fun a => by fin_cases a <;> rfl
/-- The zero offsets of a stack of matrices. -/
theorem hz3 : (![0, 0, 0] : Fin 3 → Nat) = fun _ => 0 := funext fun a => by fin_cases a <;> rfl

/-- What point `t` writes back to the score array is block `t` of the scores. -/
theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz3]
  simp only [View.ld_unit_zero (S := S512x1024) hz2, View.ld_unit_zero (S := S1024x1000) hz2, View.ld_unit_zero (S := S1x1000) hz2,
    View.ld_unit_zero (S := S4x128x1000) hz3]
  funext y
  obtain ⟨s, q, a, rfl⟩ : ∃ (s : Fin 4) (q : Fin 128) (a : Fin 1000), y = ix3 s q a := ⟨y 0, y 1, y 2, eq_ix3 y⟩
  show k0_pay3 (F := Ideal) (iblk m c 0 t) (iblk m c 1 t) (iblk m c 3 t) (iblk m c 4 t) (iblk m c 5 t) (iblk m c 2 t) (ix3 s q a)
    = G8 m c (((cfg0.win 8).blk t).view.emb (ix3 s q a))
  refine (pay3_apply _ _ _ _ _ _ s q a).trans ((scores_blk m c t _ a).trans ?_)
  obtain ⟨e0, e1, e2⟩ := idx8 t
  unfold G8
  refine congr (congrArg _ (Fin.ext ?_)) (Fin.ext ?_)
  · show t.val * 512 + (s.val * 128 + q.val) = (win0_8.index t 0 * 4 + 1 * s.val) * 128 + (win0_8.index t 1 * 128 + 1 * q.val)
    omega
  · show a.val = win0_8.index t 2 * 1000 + 1 * a.val
    omega

/-- What point `t` writes back to the baseline array is block `t` of the baselines. -/
theorem flushed9 (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  unfold out0_9
  rw [View.canon_unit_zero hz2]
  simp only [View.ld_unit_zero (S := S512x1024) hz2, View.ld_unit_zero (S := S1x2048) hz2, View.ld_unit_zero (S := S1x1) hz2]
  funext y
  obtain ⟨p, z, rfl⟩ : ∃ (p : Fin 512) (z : Fin 1), y = ix2 p z := ⟨y 0, y 1, eq_ix2 y⟩
  obtain rfl : z = 0 := Subsingleton.elim _ _
  show k0_pay1 (F := Ideal) (iblk m c 0 t) (iblk m c 1 t) (iblk m c 6 t) (iblk m c 7 t) (ix2 p 0)
    = G9 m c (((cfg0.win 9).blk t).view.emb (ix2 p 0))
  refine (base_blk m c t p).trans ?_
  obtain ⟨e0, e1⟩ := idx9 t
  unfold G9
  refine congrArg _ (Fin.ext ?_)
  show t.val * 512 + p.val = win0_9.index t 0 * 512 + 1 * p.val
  omega

/-- What point `t` writes back to the action array is block `t` of the actions. -/
theorem flushed10 (c : Dev nD) (t : Fin cfg0.N) :
    (dats m 0 c).flushed 10 t = ((cfg0.win 10).blk t).view.read (Elt Ideal) (G10 m c) := by
  show (cfg0.win 10).cut (grid0.coords t) ((dats m 0 c).after 10 t) = _
  rw [after0_10]
  unfold out0_10
  rw [View.canon_unit_zero hz2]
  simp only [View.ld_unit_zero (S := S512x1024) hz2, View.ld_unit_zero (S := S1024x1000) hz2, View.ld_unit_zero (S := S1x1000) hz2,
    View.ld_unit_zero (S := S4x128x1000) hz3]
  funext y
  obtain ⟨p, z, rfl⟩ : ∃ (p : Fin 512) (z : Fin 1), y = ix2 p z := ⟨y 0, y 1, eq_ix2 y⟩
  obtain rfl : z = 0 := Subsingleton.elim _ _
  show k0_pay4 (F := Ideal) (iblk m c 0 t) (iblk m c 1 t) (iblk m c 3 t) (iblk m c 4 t) (iblk m c 5 t) (iblk m c 2 t) (ix2 p 0)
    = G10 m c (((cfg0.win 10).blk t).view.emb (ix2 p 0))
  refine (action_blk m c t p).trans ?_
  obtain ⟨e0, e1⟩ := idx10 t
  have e : (row t p : Fin 4096) = (((cfg0.win 10).blk t).view.emb (ix2 p 0) : S4096x1.Idx) 0 := by
    refine Fin.ext ?_
    show t.val * 512 + p.val = win0_10.index t 0 * 512 + 1 * p.val
    omega
  unfold G10
  exact congrArg (fun r : Fin 4096 => FloatOps.sitofp (F := Ideal) .f32
    (BitVec.ofNat 32 (action (A0 m c) (A1 m c) (A3 m c) (A4 m c) r).val)) e

/-- The blocks of the score array cover it. -/
theorem cover8 (i : S32x128x1000.Idx) : ∃ t : Fin cfg0.N, (cfg0.win 8).flush t = true ∧ i ∈ ((cfg0.win 8).blk t).view.set := by
  have h0 : (i 0).val < 32 := (i 0).isLt
  have h1 : (i 1).val < 128 := (i 1).isLt
  have h2 : (i 2).val < 1000 := (i 2).isLt
  have hN : cfg0.N = 8 := N_0
  have ht : (i 0).val / 4 < cfg0.N := by omega
  refine ⟨⟨(i 0).val / 4, ht⟩, flush0_8 _, ?_⟩
  show i ∈ ((View.whole main_v0_0).slice (win0_8.rect ⟨(i 0).val / 4, ht⟩)).set
  rw [View.set_slice_whole, Rect.mem_set_unit]
  obtain ⟨e0, e1, e2⟩ := idx8 ⟨(i 0).val / 4, ht⟩
  dsimp only at e0
  intro a
  match a with
  | ⟨0, _⟩ => show win0_8.index ⟨(i 0).val / 4, ht⟩ 0 * 4 ≤ (i 0).val ∧ (i 0).val < win0_8.index ⟨(i 0).val / 4, ht⟩ 0 * 4 + 4; omega
  | ⟨1, _⟩ => show win0_8.index ⟨(i 0).val / 4, ht⟩ 1 * 128 ≤ (i 1).val ∧ (i 1).val < win0_8.index ⟨(i 0).val / 4, ht⟩ 1 * 128 + 128; omega
  | ⟨2, _⟩ => show win0_8.index ⟨(i 0).val / 4, ht⟩ 2 * 1000 ≤ (i 2).val ∧ (i 2).val < win0_8.index ⟨(i 0).val / 4, ht⟩ 2 * 1000 + 1000; omega

/-- The blocks of the baseline array cover it. -/
theorem cover9 (i : S4096x1.Idx) : ∃ t : Fin cfg0.N, (cfg0.win 9).flush t = true ∧ i ∈ ((cfg0.win 9).blk t).view.set := by
  have h0 : (i 0).val < 4096 := (i 0).isLt
  have h1 : (i 1).val < 1 := (i 1).isLt
  have hN : cfg0.N = 8 := N_0
  have ht : (i 0).val / 512 < cfg0.N := by omega
  refine ⟨⟨(i 0).val / 512, ht⟩, flush0_9 _, ?_⟩
  show i ∈ ((View.whole main_call0_v3_1).slice (win0_9.rect ⟨(i 0).val / 512, ht⟩)).set
  rw [View.set_slice_whole, Rect.mem_set_unit]
  obtain ⟨e0, e1⟩ := idx9 ⟨(i 0).val / 512, ht⟩
  dsimp only at e0
  intro a
  match a with
  | ⟨0, _⟩ => show win0_9.index ⟨(i 0).val / 512, ht⟩ 0 * 512 ≤ (i 0).val ∧ (i 0).val < win0_9.index ⟨(i 0).val / 512, ht⟩ 0 * 512 + 512; omega
  | ⟨1, _⟩ => show win0_9.index ⟨(i 0).val / 512, ht⟩ 1 * 1 ≤ (i 1).val ∧ (i 1).val < win0_9.index ⟨(i 0).val / 512, ht⟩ 1 * 1 + 1; omega

/-- The blocks of the action array cover it. -/
theorem cover10 (i : S4096x1.Idx) : ∃ t : Fin cfg0.N, (cfg0.win 10).flush t = true ∧ i ∈ ((cfg0.win 10).blk t).view.set := by
  have h0 : (i 0).val < 4096 := (i 0).isLt
  have h1 : (i 1).val < 1 := (i 1).isLt
  have hN : cfg0.N = 8 := N_0
  have ht : (i 0).val / 512 < cfg0.N := by omega
  refine ⟨⟨(i 0).val / 512, ht⟩, flush0_10 _, ?_⟩
  show i ∈ ((View.whole main_call0_v3_2).slice (win0_10.rect ⟨(i 0).val / 512, ht⟩)).set
  rw [View.set_slice_whole, Rect.mem_set_unit]
  obtain ⟨e0, e1⟩ := idx10 ⟨(i 0).val / 512, ht⟩
  dsimp only at e0
  intro a
  match a with
  | ⟨0, _⟩ => show win0_10.index ⟨(i 0).val / 512, ht⟩ 0 * 512 ≤ (i 0).val ∧ (i 0).val < win0_10.index ⟨(i 0).val / 512, ht⟩ 0 * 512 + 512; omega
  | ⟨1, _⟩ => show win0_10.index ⟨(i 0).val / 512, ht⟩ 1 * 1 ≤ (i 1).val ∧ (i 1).val < win0_10.index ⟨(i 0).val / 512, ht⟩ 1 * 1 + 1; omega

/-- The score array after the last grid point. -/
theorem arr8 (c : Dev nD) : (dats m 0 c).arrAt 8 cfg0.N = G8 m c :=
  (dats m 0 c).arrAt_eq_of_cover 8 (G8 m c) (fun t _ => flushed8 m c t) cover8

/-- The baseline array after the last grid point. -/
theorem arr9 (c : Dev nD) : (dats m 0 c).arrAt 9 cfg0.N = G9 m c :=
  (dats m 0 c).arrAt_eq_of_cover 9 (G9 m c) (fun t _ => flushed9 m c t) cover9

/-- The action array after the last grid point. -/
theorem arr10 (c : Dev nD) : (dats m 0 c).arrAt 10 cfg0.N = G10 m c :=
  (dats m 0 c).arrAt_eq_of_cover 10 (G10 m c) (fun t _ => flushed10 m c t) cover10

end Cert.Proof.Arr

end
-- ==== Proof.RefRun.lean ====
/-
  The run of the reference: a straight line of host operations and no kernel. Every fair run ends, the four result
  buffers hold the closed terms below over the launch contents of the arguments, the seven arguments hold what they
  held, and the counters are at zero.
-/
module

public import proofs.«01_k».proof.Defs
public import proofs.«01_k».proof.Proof.Gen.ReferenceIdeal
public import Idealize.ShloMosaic.Lib.StableHlo.Run
public import Idealize.ShloMosaic.Lib.Claim
public import Idealize.ShloMosaic.PureOps.Ideal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The column half of the paired reduction: per row the index that the reference's comparison keeps. -/
def argSnd (x : FVec F S4096x1000 .f32) (y : IVec S4096x1000 32) (u : FVec F S_ .f32) (v : IVec S_ 32) : IVec S4096 32 :=
  fun j => (Host.argReduce reducer_argmax_f32_i32 x y u v reducesTo_S4096x1000_S4096_d1 h_S_ j).2

/-- The reference's operations, in order. -/
abbrev ops : List (HloOp τ sig (Elt F)) :=
  [ binary main_arg0 main_arg3 main_v0 (fun l r => Host.dotGeneral dot_S4096x2048_S2048x1000_S4096x1000_1_0_0_1_n_n none l r),
    unary main_arg4 main_v1 (broadcastInDim S1x1000 ![1] bcast_S1000_S1x1000_1),
    unary main_v1 main_v2 (broadcastInDim S4096x1000 ![0, 1] bcast_S1x1000_S4096x1000_0_1),
    binary main_v0 main_v2 main_v3 addf,
    binary main_arg0 main_arg5 main_v4 (fun l r => Host.dotGeneral dot_S4096x2048_S2048x1_S4096x1_1_0_0_1_n_n none l r),
    unary main_arg6 main_v5 (broadcastInDim S1x1 ![1] bcast_S1_S1x1_1),
    unary main_v5 main_v6 (broadcastInDim S4096x1 ![0, 1] bcast_S1x1_S4096x1_0_1),
    binary main_v4 main_v6 main_v7 addf,
    unary main_arg1 main_v8 (sitofp .f32),
    reshape main_v8 main_v9 rfl shapeCasts_S32x128x1000_S4096x1000,
    nullary main_cst (constant S_ .f32 0x3F800000#32),
    unary main_cst main_v10 (broadcastInDim S4096x1000 ![] bcast_S_S4096x1000),
    binary main_v10 main_v9 main_v11 subf,
    nullary main_cst_0 (constant S_ .f32 0x60AD78EC#32),
    unary main_cst_0 main_v12 (broadcastInDim S4096x1000 ![] bcast_S_S4096x1000),
    binary main_v11 main_v12 main_v13 mulf,
    binary main_v3 main_v13 main_v14 subf,
    nullary main_call0_v0 (iotaInDim S4096x1000 32 1),
    nullary main_call0_cst (constant S_ .f32 0xFF800000#32),
    nullary main_call0_c (constantI S_ 32 0#32),
    quaternary main_v14 main_call0_v0 main_call0_cst main_call0_c main_call0_v1_0
      (fun x y u v j => (Host.argReduce reducer_argmax_f32_i32 x y u v reducesTo_S4096x1000_S4096_d1 h_S_ j).1),
    quaternary main_v14 main_call0_v0 main_call0_cst main_call0_c main_v15 argSnd,
    reshape main_v14 main_v16 rfl shapeCasts_S4096x1000_S32x128x1000,
    reshape main_v7 main_v17 rfl shapeCasts_S4096x1_S32x128,
    reshape main_v15 main_v18 rfl shapeCasts_S4096_S32x128,
    nullary main_cst_1 (constant S_ .f32 0x00000000#32),
    unary main_cst_1 main_v19 (broadcastInDim S32 ![] bcast_S_S32) ]

/-- The reference is that straight line. -/
theorem main_eq (c : Dev nD) : main (F := F) c = seq ops := rfl

/-- The masked logits, one row per pair of batch and step, as the reference computes them. -/
def maskedT (a0 : FVec F S4096x2048 .f32) (a1 : IVec S32x128x1000 32) (a3 : FVec F S2048x1000 .f32)
    (a4 : FVec F S1000 .f32) : FVec F S4096x1000 .f32 :=
  subf (addf (Host.dotGeneral dot_S4096x2048_S2048x1000_S4096x1000_1_0_0_1_n_n none a0 a3)
      (broadcastInDim S4096x1000 ![0, 1] bcast_S1x1000_S4096x1000_0_1 (broadcastInDim S1x1000 ![1] bcast_S1000_S1x1000_1 a4)))
    (mulf (subf (broadcastInDim S4096x1000 ![] bcast_S_S4096x1000 (constant S_ .f32 0x3F800000#32))
        (shapeCast S4096x1000 (sitofp .f32 a1) shapeCasts_S32x128x1000_S4096x1000))
      (broadcastInDim S4096x1000 ![] bcast_S_S4096x1000 (constant S_ .f32 0x60AD78EC#32)))

/-- The baseline column, as the reference computes it. -/
def baseT (a0 : FVec F S4096x2048 .f32) (a5 : FVec F S2048x1 .f32) (a6 : FVec F S1 .f32) : FVec F S4096x1 .f32 :=
  addf (Host.dotGeneral dot_S4096x2048_S2048x1_S4096x1_1_0_0_1_n_n none a0 a5)
    (broadcastInDim S4096x1 ![0, 1] bcast_S1x1_S4096x1_0_1 (broadcastInDim S1x1 ![1] bcast_S1_S1x1_1 a6))

/-- The chosen column of each row of `x`, as the reference computes it. -/
def actT (x : FVec F S4096x1000 .f32) : IVec S4096 32 :=
  argSnd x (iotaInDim S4096x1000 32 1) (constant S_ .f32 0xFF800000#32) (constantI S_ 32 0#32)

section Results
variable (V : Valuation τ sig (Elt F))

/-- The first result: the masked logits. -/
theorem out0_eq : after ops V (main_v16 : DevRef τ sig)
    = shapeCast S32x128x1000 (maskedT (V (main_arg0 : DevRef τ sig)) (V (main_arg1 : DevRef τ sig))
        (V (main_arg3 : DevRef τ sig)) (V (main_arg4 : DevRef τ sig))) shapeCasts_S4096x1000_S32x128x1000 := by
  after_results
  rfl

/-- The second result: the baseline. -/
theorem out1_eq : after ops V (main_v17 : DevRef τ sig)
    = shapeCast S32x128 (baseT (V (main_arg0 : DevRef τ sig)) (V (main_arg5 : DevRef τ sig))
        (V (main_arg6 : DevRef τ sig))) shapeCasts_S4096x1_S32x128 := by
  after_results
  rfl

attribute [local irreducible] argSnd in
/-- The third result: the chosen column. -/
theorem out2_eq : after ops V (main_v18 : DevRef τ sig)
    = shapeCast S32x128 (actT (maskedT (V (main_arg0 : DevRef τ sig)) (V (main_arg1 : DevRef τ sig))
        (V (main_arg3 : DevRef τ sig)) (V (main_arg4 : DevRef τ sig)))) shapeCasts_S4096_S32x128 := by
  unfold actT maskedT
  after_results
  funext i
  simp only [eqRec_eq_cast, cast_eq]
  congr 1

/-- The fourth result: zeros. -/
theorem out3_eq : after ops V (main_v19 : DevRef τ sig)
    = broadcastInDim S32 ![] bcast_S_S32 (constant S_ .f32 0x00000000#32) := by
  after_results

/-- No operation writes the first argument. -/
theorem arg0_eq : after ops V (main_arg0 : DevRef τ sig) = V (main_arg0 : DevRef τ sig) := by after_results
/-- No operation writes the second argument. -/
theorem arg1_eq : after ops V (main_arg1 : DevRef τ sig) = V (main_arg1 : DevRef τ sig) := by after_results
/-- No operation writes the third argument. -/
theorem arg2_eq : after ops V (main_arg2 : DevRef τ sig) = V (main_arg2 : DevRef τ sig) := by after_results
/-- No operation writes the fourth argument. -/
theorem arg3_eq : after ops V (main_arg3 : DevRef τ sig) = V (main_arg3 : DevRef τ sig) := by after_results
/-- No operation writes the fifth argument. -/
theorem arg4_eq : after ops V (main_arg4 : DevRef τ sig) = V (main_arg4 : DevRef τ sig) := by after_results
/-- No operation writes the sixth argument. -/
theorem arg5_eq : after ops V (main_arg5 : DevRef τ sig) = V (main_arg5 : DevRef τ sig) := by after_results
/-- No operation writes the seventh argument. -/
theorem arg6_eq : after ops V (main_arg6 : DevRef τ sig) = V (main_arg6 : DevRef τ sig) := by after_results

end Results

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨binary_bufs_sub .., unary_bufs_sub .., unary_bufs_sub .., binary_bufs_sub .., binary_bufs_sub ..,
    unary_bufs_sub .., unary_bufs_sub .., binary_bufs_sub .., unary_bufs_sub .., reshape_bufs_sub ..,
    nullary_bufs_sub .., unary_bufs_sub .., binary_bufs_sub .., nullary_bufs_sub .., unary_bufs_sub ..,
    binary_bufs_sub .., binary_bufs_sub .., nullary_bufs_sub .., nullary_bufs_sub .., nullary_bufs_sub ..,
    quaternary_bufs_sub .., quaternary_bufs_sub .., reshape_bufs_sub .., reshape_bufs_sub .., reshape_bufs_sub ..,
    nullary_bufs_sub .., unary_bufs_sub ..⟩

/-- The run of the reference: the four results at their closed terms, the seven arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v16) = shapeCast S32x128x1000
            (maskedT (m ((c.tc : Thread nD τ).loc main_arg0)) (m ((c.tc : Thread nD τ).loc main_arg1))
              (m ((c.tc : Thread nD τ).loc main_arg3)) (m ((c.tc : Thread nD τ).loc main_arg4)))
            shapeCasts_S4096x1000_S32x128x1000
        ∧ r.2.mem ((c.tc : Thread nD τ).loc main_v17) = shapeCast S32x128
            (baseT (m ((c.tc : Thread nD τ).loc main_arg0)) (m ((c.tc : Thread nD τ).loc main_arg5))
              (m ((c.tc : Thread nD τ).loc main_arg6))) shapeCasts_S4096x1_S32x128
        ∧ r.2.mem ((c.tc : Thread nD τ).loc main_v18) = shapeCast S32x128
            (actT (maskedT (m ((c.tc : Thread nD τ).loc main_arg0)) (m ((c.tc : Thread nD τ).loc main_arg1))
              (m ((c.tc : Thread nD τ).loc main_arg3)) (m ((c.tc : Thread nD τ).loc main_arg4))))
            shapeCasts_S4096_S32x128
        ∧ r.2.mem ((c.tc : Thread nD τ).loc main_v19)
            = broadcastInDim S32 ![] bcast_S_S32 (constant S_ .f32 0x00000000#32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run defs _ _).mono (fun _ h c =>
      ⟨(h c main_v16).trans (out0_eq _), (h c main_v17).trans (out1_eq _), (h c main_v18).trans (out2_eq _),
        (h c main_v19).trans (out3_eq _), (h c main_arg0).trans (arg0_eq _), (h c main_arg1).trans (arg1_eq _),
        (h c main_arg2).trans (arg2_eq _), (h c main_arg3).trans (arg3_eq _), (h c main_arg4).trans (arg4_eq _),
        (h c main_arg5).trans (arg5_eq _), (h c main_arg6).trans (arg6_eq _)⟩)
    (run_seq scopedRefs_eq scopedSems_eq defs main (fun _ => ops) main_eq (fun _ => ops_sub) m ρ)

/-- The reference's frame: it ends, keeps its arguments, and leaves every counter at zero. -/
theorem frame : Cert.quiescent_ReferenceIdeal := fun m ρ _ =>
  (θ_run defs _ _).mono (fun r h => ⟨fun c => (h c).2.2.2.2, sem_eq_zero_of_no_sems (by decide) r.2⟩)
    (run_main (F := Ideal) m ρ)

end Cert.Proof.Ref

end
-- ==== Proof.RefValue.lean ====
/-
  What the reference's terms hold, entry by entry, over the extended reals: its masked scores, its baselines and its
  actions are the plain sums of the specification.
-/
module

public import proofs.«01_k».proof.Proof.RefRun
public import proofs.«01_k».proof.Proof.Spec
public import Idealize.ShloMosaic.Lib.StackMember
public import Idealize.ShloMosaic.Lib.IdealHost

@[expose] public section

set_option maxRecDepth 16384

noncomputable section

open scoped BigOperators

namespace Cert.Proof.RefVal

open Cert.ReferenceIdeal Cert.ReferenceIdeal.Gen
open Idealize.ShloMosaic Idealize.ShloMosaic.ValueIdx
open Cert.Proof.ArgMax Cert.Proof.Block Cert.Proof.Spec Cert.Proof.Ref

/-- The product of the rows with the policy weights. -/
theorem prod_apply (x : FVec Ideal S4096x2048 .f32) (y : FVec Ideal S2048x1000 .f32) (r : Fin 4096) (a : Fin 1000) :
    Host.dotGeneral dot_S4096x2048_S2048x1000_S4096x1000_1_0_0_1_n_n none x y (ix2 r a)
      = ∑ k : Fin 2048, x (ix2 r k) * y (ix2 k a) :=
  StackMember.dotGeneral_plain_apply (m := 4096) (n := 1000) (k := 2048) none x y r a

/-- The product of the rows with the baseline weights. -/
theorem prodBase_apply (x : FVec Ideal S4096x2048 .f32) (y : FVec Ideal S2048x1 .f32) (r : Fin 4096) :
    Host.dotGeneral dot_S4096x2048_S2048x1_S4096x1_1_0_0_1_n_n none x y (ix2 r 0)
      = ∑ k : Fin 2048, x (ix2 r k) * y (ix2 k 0) :=
  StackMember.dotGeneral_plain_apply (m := 4096) (n := 1) (k := 2048) none x y r 0

/-- The policy bias spread down the rows. -/
theorem bias_apply (x : FVec Ideal S1000 .f32) (r : Fin 4096) (a : Fin 1000) :
    broadcastInDim S4096x1000 ![0, 1] bcast_S1x1000_S4096x1000_0_1 (broadcastInDim S1x1000 ![1] bcast_S1000_S1x1000_1 x) (ix2 r a)
      = x (ix1 a) := by
  rw [broadcastInDim_apply _ bcast_S1x1000_S4096x1000_0_1 _ (ix2 r a) (ix2 0 a)
    (by intro d; match d with | ⟨0, _⟩ => rfl | ⟨1, _⟩ => rfl)]
  exact broadcastInDim_apply _ _ x (ix2 0 a) (ix1 a) (by intro d; match d with | ⟨0, _⟩ => rfl)

/-- The baseline bias spread down the rows. -/
theorem biasBase_apply (x : FVec Ideal S1 .f32) (r : Fin 4096) :
    broadcastInDim S4096x1 ![0, 1] bcast_S1x1_S4096x1_0_1 (broadcastInDim S1x1 ![1] bcast_S1_S1x1_1 x) (ix2 r 0)
      = x (ix1 0) := by
  rw [broadcastInDim_apply _ bcast_S1x1_S4096x1_0_1 _ (ix2 r 0) (ix2 0 0)
    (by intro d; match d with | ⟨0, _⟩ => rfl | ⟨1, _⟩ => rfl)]
  exact broadcastInDim_apply _ _ x (ix2 0 0) (ix1 0) (by intro d; match d with | ⟨0, _⟩ => rfl)

/-- The mask laid out row under row. -/
theorem mask_apply (x : FVec Ideal S32x128x1000 .f32) (r : Fin 4096) (a : Fin 1000) :
    shapeCast S4096x1000 x shapeCasts_S32x128x1000_S4096x1000 (ix2 r a)
      = x (ix3 (⟨r.val / 128, by omega⟩ : Fin 32) (⟨r.val % 128, by omega⟩ : Fin 128) a) := by
  refine shapeCast_apply x _ _ _ ?_
  rw [Shape.rowMajor_val_three, Shape.rowMajor_val_two]
  show (r.val / 128 * 128 + r.val % 128) * 1000 + a.val = r.val * 1000 + a.val
  omega

/-- The reference's masked scores are the specification's. -/
theorem maskedT_apply (a0 : FVec Ideal S4096x2048 .f32) (a1 : IVec S32x128x1000 32) (a3 : FVec Ideal S2048x1000 .f32)
    (a4 : FVec Ideal S1000 .f32) (r : Fin 4096) (a : Fin 1000) :
    maskedT (F := Ideal) a0 a1 a3 a4 (ix2 r a) = score a0 a1 a3 a4 r a := by
  unfold maskedT score
  rw [subf_apply, addf_apply, prod_apply, bias_apply, mulf_apply, subf_apply, mask_apply, sitofp_apply]
  rfl

/-- The reference's baselines are the specification's. -/
theorem baseT_apply (a0 : FVec Ideal S4096x2048 .f32) (a5 : FVec Ideal S2048x1 .f32) (a6 : FVec Ideal S1 .f32) (r : Fin 4096) :
    baseT (F := Ideal) a0 a5 a6 (ix2 r 0) = baseline a0 a5 a6 r := by
  unfold baseT baseline
  rw [addf_apply, prodBase_apply, biasBase_apply]

/-- Reducing the columns of the score array leaves its rows. -/
theorem reducesRows : S4096x1000.Reduces [1] S4096 := by decide

/-- Dropping the column of an index of a row leaves the row. -/
theorem drop_row (h : S4096x1000.ReducesTo [1] S4096) (hR : S4096x1000.Reduces [1] S4096) (r : Fin 4096) (a : Fin 1000) :
    h.drop (ix2 r a) = ix1 r := by
  rw [h.drop_eq_drop hR]
  have e : hR.lift (ix1 r) a = ix2 r a := by funext d; match d with | ⟨0, _⟩ => rfl | ⟨1, _⟩ => rfl
  rw [← e]
  exact hR.drop_lift (ix1 r) a

/-- An index that reduces to row `r` is row `r` at some column. -/
theorem of_drop_row (h : S4096x1000.ReducesTo [1] S4096) (hR : S4096x1000.Reduces [1] S4096) (r : Fin 4096) (i : S4096x1000.Idx)
    (hi : h.drop i = ix1 r) : ∃ a : Fin 1000, i = ix2 r a := by
  obtain ⟨q, a, rfl⟩ : ∃ (q : Fin 4096) (a : Fin 1000), i = ix2 q a := ⟨i 0, i 1, eq_ix2 i⟩
  rw [drop_row h hR] at hi
  have e : q = r := congrFun hi 0
  exact ⟨a, by rw [e]⟩

/-- The pairs that a paired reduction lists for one result index: those of the indices that reduce to it. -/
theorem mem_fiber {α β : Type} {s t : Shape} {axes : List (Fin s.rank)} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, ?_⟩, ?_⟩
    · rw [Equiv.symm_apply_apply]
      exact decide_eq_true hi
    · rw [Equiv.symm_apply_apply]

/-- A paired reduction by the reference's comparison, from minus infinity and zero: where the listed pairs are the values
    `X` with their numbers, the kept number is that of the first largest value. -/
theorem kept_of_firstMax {s t u : Shape} {axes : List (Fin s.rank)} (x : FVec Ideal s .f32) (y : IVec s 32) (v : FVec Ideal u .f32)
    (w : IVec u 32) (h : s.ReducesTo axes t) (hu : 0 < u.numel) (g : IVec t 32)
    (hg : g = fun j => (Host.argReduce reducer_argmax_f32_i32 x y v w h hu j).2)
    (hv : v (Shape.Idx.first hu) = (⊥ : EReal)) (hw : w (Shape.Idx.first hu) = 0#32) (j : t.Idx) {X : Fin 1000 → EReal}
    {k : Fin 1000} (hk : FirstMax X k) (hin : ∀ a, ∃ i, h.drop i = j ∧ x i = X a ∧ y i = BitVec.ofNat 32 a.val)
    (hout : ∀ i, h.drop i = j → ∃ a, x i = X a ∧ y i = BitVec.ofNat 32 a.val) : g j = BitVec.ofNat 32 k.val := by
  rw [hg]
  show (Host.argReduce reducer_argmax_f32_i32 x y v w h hu j).2 = _
  rw [Ideal.argReduce_eq_reduce2, Host.reduce2_eq_foldl_fiber, hv, hw]
  refine foldlRed hk _ (fun a => ?_) (fun p hp => ?_)
  · obtain ⟨i, hi, h1, h2⟩ := hin a
    exact (mem_fiber x y h j _).mpr ⟨i, hi, Prod.ext h1.symm h2.symm⟩
  · obtain ⟨i, hi, e⟩ := (mem_fiber x y h j p).mp hp
    obtain ⟨a, h1, h2⟩ := hout i hi
    exact ⟨a, e.trans (Prod.ext h1 h2)⟩

/-- The chosen columns as the column half of the paired reduction. -/
theorem argSnd_fun : @argSnd Ideal _
    = fun x y u v j => (Host.argReduce reducer_argmax_f32_i32 x y u v reducesTo_S4096x1000_S4096_d1 h_S_ j).2 := rfl

/-- The reduction's starting value is minus infinity. -/
theorem start_eq : (constant (F := Ideal) S_ .f32 0xFF800000#32 (Shape.Idx.first h_S_) : EReal) = ⊥ := by
  show Ideal.ofBits .f32 0xFF800000#32 = ⊥
  simp [Ideal.ofBits, Ideal.ieee]

/-- The paired reduction of a row ends at the first column of the row's largest entry. -/
theorem actT_apply (x : FVec Ideal S4096x1000 .f32) (r : Fin 4096) (k : Fin 1000) (hk : FirstMax (fun a => x (ix2 r a)) k) :
    actT (F := Ideal) x (ix1 r) = BitVec.ofNat 32 k.val := by
  refine kept_of_firstMax x (iotaInDim S4096x1000 32 1) (constant S_ .f32 0xFF800000#32) (constantI S_ 32 0#32)
    reducesTo_S4096x1000_S4096_d1 h_S_ (actT (F := Ideal) x) ?_ start_eq rfl (ix1 r) hk (fun a => ?_) (fun i hi => ?_)
  · exact congrFun (congrFun (congrFun (congrFun argSnd_fun x) _) _) _
  · exact ⟨ix2 r a, drop_row _ reducesRows r a, rfl, rfl⟩
  · obtain ⟨a, rfl⟩ := of_drop_row _ reducesRows r i hi
    exact ⟨a, rfl, rfl⟩

end Cert.Proof.RefVal

end
-- ==== Proof.Equation.lean ====
/-
  The two programs' results meet: the kernel's arrays, relaid by its host steps, and the reference's terms, relaid as
  slabs of 128 rows, are the same functions of the arguments.
-/
module

public import proofs.«01_k».proof.Proof.Array
public import proofs.«01_k».proof.Proof.RefValue

@[expose] public section

set_option maxRecDepth 16384

noncomputable section

namespace Cert.Proof.Equation

open Idealize.ShloMosaic Idealize.ShloMosaic.ValueIdx
open Cert.Proof.ArgMax Cert.Proof.Spec Cert.Proof.Ref Cert.Proof.RefVal Cert.Proof.Arr

/-- The row number of entry `q` of slab `s`. -/
abbrev rowOf (s : Fin 32) (q : Fin 128) : Fin 4096 := ⟨s.val * 128 + q.val, by omega⟩

section Results
variable (a0 : FVec Ideal ⟨2, ![4096, 2048]⟩ .f32) (a1 : IVec ⟨3, ![32, 128, 1000]⟩ 32) (a3 : FVec Ideal ⟨2, ![2048, 1000]⟩ .f32)
  (a4 : FVec Ideal ⟨1, ![1000]⟩ .f32) (a5 : FVec Ideal ⟨2, ![2048, 1]⟩ .f32) (a6 : FVec Ideal ⟨1, ![1]⟩ .f32)

/-- The masked scores, as slabs of 128 rows. -/
def scores : FVec Ideal ⟨3, ![32, 128, 1000]⟩ .f32 := fun i => score a0 a1 a3 a4 (rowOf (i 0) (i 1)) (i 2)

/-- The baselines, as slabs of 128 rows. -/
def baselines : FVec Ideal ⟨2, ![32, 128]⟩ .f32 := fun i => baseline a0 a5 a6 (rowOf (i 0) (i 1))

/-- The actions, as slabs of 128 rows. -/
def actions : IVec ⟨2, ![32, 128]⟩ 32 := fun i => BitVec.ofNat 32 (action a0 a1 a3 a4 (rowOf (i 0) (i 1))).val

/-- The reference's first result. -/
theorem ref_scores (h : Cert.ReferenceIdeal.S4096x1000.ShapeCasts Cert.ReferenceIdeal.S32x128x1000) :
    shapeCast Cert.ReferenceIdeal.S32x128x1000 (maskedT (F := Ideal) a0 a1 a3 a4) h = scores a0 a1 a3 a4 := by
  funext i
  obtain ⟨s, q, a, rfl⟩ : ∃ (s : Fin 32) (q : Fin 128) (a : Fin 1000), i = ix3 s q a := ⟨i 0, i 1, i 2, eq_ix3 i⟩
  refine (shapeCast_apply _ h (ix3 s q a) (ix2 (rowOf s q) a) ?_).trans (maskedT_apply a0 a1 a3 a4 (rowOf s q) a)
  rw [Shape.rowMajor_val_two, Shape.rowMajor_val_three]
  rfl

/-- The reference's second result. -/
theorem ref_baselines (h : Cert.ReferenceIdeal.S4096x1.ShapeCasts Cert.ReferenceIdeal.S32x128) :
    shapeCast Cert.ReferenceIdeal.S32x128 (baseT (F := Ideal) a0 a5 a6) h = baselines a0 a5 a6 := by
  funext i
  obtain ⟨s, q, rfl⟩ : ∃ (s : Fin 32) (q : Fin 128), i = ix2 s q := ⟨i 0, i 1, eq_ix2 i⟩
  refine (shapeCast_apply _ h (ix2 s q) (ix2 (rowOf s q) 0) ?_).trans (baseT_apply a0 a5 a6 (rowOf s q))
  rw [Shape.rowMajor_val_two, Shape.rowMajor_val_two]
  show (s.val * 128 + q.val) * 1 + 0 = s.val * 128 + q.val
  omega

/-- The action is the first column of the largest of the reference's masked scores. -/
theorem action_maskedT (r : Fin 4096) :
    FirstMax (fun a => maskedT (F := Ideal) a0 a1 a3 a4 (ix2 r a)) (action a0 a1 a3 a4 r) := by
  have e : (fun a => maskedT (F := Ideal) a0 a1 a3 a4 (ix2 r a)) = score a0 a1 a3 a4 r :=
    funext fun a => maskedT_apply a0 a1 a3 a4 r a
  rw [e]
  exact action_spec a0 a1 a3 a4 r

/-- The reference's third result. -/
theorem ref_actions (h : Cert.ReferenceIdeal.S4096.ShapeCasts Cert.ReferenceIdeal.S32x128) :
    shapeCast Cert.ReferenceIdeal.S32x128 (actT (maskedT (F := Ideal) a0 a1 a3 a4)) h = actions a0 a1 a3 a4 := by
  funext i
  obtain ⟨s, q, rfl⟩ : ∃ (s : Fin 32) (q : Fin 128), i = ix2 s q := ⟨i 0, i 1, eq_ix2 i⟩
  refine (shapeCast_apply _ h (ix2 s q) (ix1 (rowOf s q)) ?_).trans
    (actT_apply _ (rowOf s q) _ (action_maskedT a0 a1 a3 a4 (rowOf s q)))
  rw [Shape.rowMajor_val_one, Shape.rowMajor_val_two]
  rfl

end Results

section Kernel
variable (m : (ℓ : Loc Cert.KernelIdeal.nD Cert.KernelIdeal.τ Cert.KernelIdeal.sig) → Buf (Elt Ideal) ℓ)
  (c : Dev Cert.KernelIdeal.nD)

/-- The kernel's score array. -/
theorem ker_scores : G8 m c = scores (A0 m c) (A1 m c) (A3 m c) (A4 m c) := rfl

/-- The kernel's baseline array, relaid. -/
theorem ker_baselines (h : Cert.KernelIdeal.S4096x1.ShapeCasts Cert.KernelIdeal.S32x128) :
    shapeCast Cert.KernelIdeal.S32x128 (G9 m c) h = baselines (A0 m c) (A5 m c) (A6 m c) := by
  funext i
  obtain ⟨s, q, rfl⟩ : ∃ (s : Fin 32) (q : Fin 128), i = ix2 s q := ⟨i 0, i 1, eq_ix2 i⟩
  refine (shapeCast_apply _ h (ix2 s q) (ix2 (rowOf s q) 0) ?_).trans rfl
  rw [Shape.rowMajor_val_two, Shape.rowMajor_val_two]
  show (s.val * 128 + q.val) * 1 + 0 = s.val * 128 + q.val
  omega

/-- The kernel's action array, back as integers and relaid. -/
theorem ker_actions (h : Cert.KernelIdeal.S4096x1.ShapeCasts Cert.KernelIdeal.S32x128) :
    shapeCast Cert.KernelIdeal.S32x128 (fptosi 32 (G10 m c) : IVec Cert.KernelIdeal.S4096x1 32) h
      = actions (A0 m c) (A1 m c) (A3 m c) (A4 m c) := by
  funext i
  obtain ⟨s, q, rfl⟩ : ∃ (s : Fin 32) (q : Fin 128), i = ix2 s q := ⟨i 0, i 1, eq_ix2 i⟩
  refine (shapeCast_apply _ h (ix2 s q) (ix2 (rowOf s q) 0) ?_).trans ?_
  · rw [Shape.rowMajor_val_two, Shape.rowMajor_val_two]
    show (s.val * 128 + q.val) * 1 + 0 = s.val * 128 + q.val
    omega
  · exact round_trip (k := (action (A0 m c) (A1 m c) (A3 m c) (A4 m c) (rowOf s q)).val) (by omega)

end Kernel

end Cert.Proof.Equation

end
-- ==== Proof.lean ====
/-
  The kernel and its reference end and keep their arguments, and over the extended reals the four results of the kernel
  are the reference's: the masked scores, the baselines, the actions and the zeros.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The four results of the kernel are those of the reference. -/
theorem algebraic : Cert.algebraic_KernelIdeal_ReferenceIdeal := fun m g m' g' _ hag =>
  ⟨fun c => Equation.scores (Arr.A0 m c) (Arr.A1 m c) (Arr.A3 m c) (Arr.A4 m c),
    fun c => Equation.baselines (Arr.A0 m c) (Arr.A5 m c) (Arr.A6 m c),
    fun c => Equation.actions (Arr.A0 m c) (Arr.A1 m c) (Arr.A3 m c) (Arr.A4 m c),
    fun _ => broadcastInDim Cert.KernelIdeal.S32 ![] Cert.KernelIdeal.Gen.bcast_S_S32
      (constant (F := Ideal) Cert.KernelIdeal.S_ .f32 0x00000000#32),
    (θ_run Cert.KernelIdeal.defs _ _).mono (fun r h c => by
      obtain ⟨h0, h1, h2, h3, hargs⟩ := h c
      refine ⟨h0.trans ((Arr.arr8 m c).trans (Equation.ker_scores m c)), h1.trans ?_, h2.trans ?_, h3, hargs⟩
      · exact (congrArg (fun z => shapeCast Cert.KernelIdeal.S32x128 z _) (Arr.arr9 m c)).trans (Equation.ker_baselines m c _)
      · exact (congrArg (fun z => shapeCast Cert.KernelIdeal.S32x128 (fptosi 32 z : IVec Cert.KernelIdeal.S4096x1 32) _)
          (Arr.arr10 m c)).trans (Equation.ker_actions m c _)) (KRun.run m g),
    (θ_run Cert.ReferenceIdeal.defs _ _).mono (fun r h c => by
      obtain ⟨h0, h1, h2, h3, hargs⟩ := h c
      obtain ⟨e0, e1, -, e3, e4, e5, e6⟩ := hag c
      rw [e0, e1, e3, e4] at h0 h2
      rw [e0, e5, e6] at h1
      exact ⟨h0.trans (Equation.ref_scores _ _ _ _ _), h1.trans (Equation.ref_baselines _ _ _ _),
        h2.trans (Equation.ref_actions _ _ _ _ _), h3, hargs⟩) (Ref.run_main m' g')⟩

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Ref.frame, trivial, algebraic⟩

end Cert.Proof

end
